-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "pos" .f32 0x7F61B1E6#32 ⊤
  ∧ IdealRules.named_const.Statement Cert.KernelIdeal.κ "neg" .f32 0xFF61B1E6#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S128x256 : Shape := ⟨2, ![128, 256]⟩
abbrev S4096x512 : Shape := ⟨2, ![4096, 512]⟩
abbrev S64x256 : Shape := ⟨2, ![64, 256]⟩
abbrev S64 : Shape := ⟨1, ![64]⟩
abbrev S64x64 : Shape := ⟨2, ![64, 64]⟩
abbrev S_ : Shape := ⟨0, ![]⟩

class Facts : Prop where
  bcast_S_S128x256 : S_.BroadcastsInDim S128x256 (![] : Fin 0 → Fin S128x256.rank)
  reducesTo_S128x256_S_d0_1 : S128x256.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S64x64 .f32) (main_arg5 : FVec F S64 .f32) (main_arg6 : FVec F S64x256 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x256 .f32 := Host.absf main_arg6
  let main_cst_10 : FVec F S_ .f32 := constant S_ .f32 0x7F800000#32
  let main_v30 : FVec F S64x256 .f32 := broadcastInDim S64x256 ![] bcast_S_S64x256 main_cst_10
  let main_v31 : IVec S64x256 1 := cmpf .olt main_v29 main_v30
  let main_c_11 : IVec S_ 1 := constantI S_ 1 1#1
  let main_v32 : IVec S_ 1 := (fun x v => Host.reduce IntOp.andi x v reducesTo_S64x256_S_d0_1 h_S_) main_v31 main_c_11
  let main_v33 : IVec S_ 1 := andi main_v28 main_v32
  fn_part2 (F := F) main_arg7 main_v33

def fn {F : FTy → Type} [FloatOps F] (main_arg0 : FVec F S128x256 .f32) (main_arg1 : FVec F S4096x512 .f32) (main_arg2 : FVec F S64x256 .f32) (main_arg3 : FVec F S64 .f32) (main_arg4 : FVec F S64x64 .f32) (main_arg5 : FVec F S64 .f32) (main_arg6 : FVec F S64x256 .f32) (main_arg7 : FVec F S64 .f32) (main_arg8 : FVec F S64x256 .f32) (main_arg9 : FVec F S64 .f32) (main_arg10 : FVec F S64x64 .f32) (main_arg11 : FVec F S64 .f32) (main_arg12 : FVec F S64x64 .f32) (main_arg13 : FVec F S64 .f32) : IVec S_ 1 :=
  let main_v0 : FVec F S128x256 .f32 := Host.absf main_arg0
  let main_cst : FVec F S_ .f32 := constant S_ .f32 0x7F800000#32
  let main_v1 : FVec F S128x256 .f32 := broadcastInDim S128x256 ![] bcast_S_S128x256 main_cst
  let main_v2 : IVec S128x256 1 := cmpf .olt main_v0 main_v1
  let main_c : IVec S_ 1 := constantI S_ 1 1#1
  let main_v3 : IVec S_ 1 := (fun x v => Host.reduce IntOp.andi x v reducesTo_S128x256_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S128x256 : Shape := ⟨2, ![128, 256]⟩
abbrev S4096x512 : Shape := ⟨2, ![4096, 512]⟩
abbrev S64x256 : Shape := ⟨2, ![64, 256]⟩
abbrev S64 : Shape := ⟨1, ![64]⟩
abbrev S64x64 : Shape := ⟨2, ![64, 64]⟩
abbrev S1x64 : Shape := ⟨2, ![1, 64]⟩
abbrev S128x64 : Shape := ⟨2, ![128, 64]⟩
abbrev S2048x256 : Shape := ⟨2, ![2048, 256]⟩
abbrev S256x256 : Shape := ⟨2, ![256, 256]⟩
abbrev S8x256 : Shape := ⟨2, ![8, 256]⟩
abbrev S256x64 : Shape := ⟨2, ![256, 64]⟩
abbrev S512x64 : Shape := ⟨2, ![512, 64]⟩
abbrev S256x8x256 : Shape := ⟨3, ![256, 8, 256]⟩
abbrev S256 : Shape := ⟨1, ![256]⟩
abbrev S1x256 : Shape := ⟨2, ![1, 256]⟩
abbrev S128 : Shape := ⟨1, ![128]⟩
abbrev S128x1 : Shape := ⟨2, ![128, 1]⟩
abbrev S512x256 : Shape := ⟨2, ![512, 256]⟩
abbrev S512 : Shape := ⟨1, ![512]⟩
abbrev S512x1 : Shape := ⟨2, ![512, 1]⟩

abbrev nBuf : Space → Nat
  | .hbm => 21
  | .vmem => 22
  | .smem => 0
  | _ => 0

abbrev bufTy : (tb : Table) → Fin (tcTables nBuf tb) → BufTy
  | .hbm, ⟨0, _⟩ => ⟨S128x256, .f32⟩
  | .hbm, ⟨1, _⟩ => ⟨S4096x512, .f32⟩
  | .hbm, ⟨2, _⟩ => ⟨S64x256, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x256, .f32⟩
  | .hbm, ⟨7, _⟩ => ⟨S64, .f32⟩
  | .hbm, ⟨8, _⟩ => ⟨S64x256, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S128x64, .f32⟩
  | .local _ .vmem, ⟨0, _⟩ => ⟨S128x256, .f32⟩
  | .local _ .vmem, ⟨1, _⟩ => ⟨S2048x256, .f32⟩
  | .local _ .vmem, ⟨2, _⟩ => ⟨S2048x256, .f32⟩
  | .local _ .vmem, ⟨3, _⟩ => ⟨S256x256, .f32⟩
  | .local _ .vmem, ⟨4, _⟩ => ⟨S64x256, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S64x256, .f32⟩
  | .local _ .vmem, ⟨9, _⟩ => ⟨S1x64, .f32⟩
  | .local _ .vmem, ⟨10, _⟩ => ⟨S64x256, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S128x64, .f32⟩
  | .local _ .vmem, ⟨17, _⟩ => ⟨S8x256, .f32⟩
  | .local _ .vmem, ⟨18, _⟩ => ⟨S8x256, .f32⟩
  | .local _ .vmem, ⟨19, _⟩ => ⟨S256x64, .f32⟩
  | .local _ .vmem, ⟨20, _⟩ => ⟨S256x64, .f32⟩
  | .local _ .vmem, ⟨21, _⟩ => ⟨S512x64, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_v0 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v9 : BitVec 1 := Scalar.cmpi .eq arg0 c1_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== KernelIdeal.lean ====
variable {F : FTy → Type} [FloatOps F] [Named F]
def κ : String → Option EReal := fun
  | "neg" => some ⊥
  | "pos" => some ⊤
  | _ => none
-- ==== ReferenceIdeal.lean ====
abbrev S128x256 : Shape := ⟨2, ![128, 256]⟩
abbrev S4096x512 : Shape := ⟨2, ![4096, 512]⟩
abbrev S64x256 : Shape := ⟨2, ![64, 256]⟩
abbrev S64 : Shape := ⟨1, ![64]⟩
abbrev S64x64 : Shape := ⟨2, ![64, 64]⟩
abbrev S4096x256 : Shape := ⟨2, ![4096, 256]⟩
abbrev S128x1x256 : Shape := ⟨3, ![128, 1, 256]⟩
abbrev S1x4096x256 : Shape := ⟨3, ![1, 4096, 256]⟩
abbrev S128x4096x256 : Shape := ⟨3, ![128, 4096, 256]⟩
abbrev S_ : Shape := ⟨0, ![]⟩
abbrev S128x10 : Shape := ⟨2, ![128, 10]⟩
abbrev S128x10x1 : Shape := ⟨3, ![128, 10, 1]⟩
abbrev S128x10x2 : Shape := ⟨3, ![128, 10, 2]⟩
abbrev S128x10x256 : Shape := ⟨3, ![128, 10, 256]⟩
abbrev S256x64 : Shape := ⟨2, ![256, 64]⟩
abbrev S128x1x64 : Shape := ⟨3, ![128, 1, 64]⟩
abbrev S1x1x64 : Shape := ⟨3, ![1, 1, 64]⟩
abbrev S128x10x64 : Shape := ⟨3, ![128, 10, 64]⟩
abbrev S128x1x4x16 : Shape := ⟨4, ![128, 1, 4, 16]⟩
abbrev S128x4x1x16 : Shape := ⟨4, ![128, 4, 1, 16]⟩
abbrev S128x10x4x16 : Shape := ⟨4, ![128, 10, 4, 16]⟩
abbrev S128x4x10x16 : Shape := ⟨4, ![128, 4, 10, 16]⟩
abbrev S128x4x16x10 : Shape := ⟨4, ![128, 4, 16, 10]⟩
abbrev S128x4x1x10 : Shape := ⟨4, ![128, 4, 1, 10]⟩
abbrev S128x4x1 : Shape := ⟨3, ![128, 4, 1]⟩
abbrev S128x4x1x1 : Shape := ⟨4, ![128, 4, 1, 1]⟩
abbrev S128x64 : Shape := ⟨2, ![128, 64]⟩
abbrev S1x64 : Shape := ⟨2, ![1, 64]⟩

abbrev nBuf : Space → Nat
  | .hbm => 98
  | .vmem => 0
  | .smem => 0
  | _ => 0

abbrev bufTy : (tb : Table) → Fin (tcTables nBuf tb) → BufTy
  | .hbm, ⟨0, _⟩ => ⟨S128x256, .f32⟩
  | .hbm, ⟨1, _⟩ => ⟨S4096x512, .f32⟩
  | .hbm, ⟨2, _⟩ => ⟨S64x256, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x256, .f32⟩
  | .hbm, ⟨7, _⟩ => ⟨S64, .f32⟩
  | .hbm, ⟨8, _⟩ => ⟨S64x256, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S4096x256, .f32⟩
  | .hbm, ⟨15, _⟩ => ⟨S128x1x256, .f32⟩
  | .hbm, ⟨16, _⟩ => ⟨S1x4096x256, .f32⟩
  | .hbm, ⟨17, _⟩ => ⟨S128x4096x256, .f32⟩
  | .hbm, ⟨18, _⟩ => ⟨S128x4096x256, .f32⟩
  | .hbm, ⟨19, _⟩ => ⟨S128x4096x256, .f32⟩
  | .hbm, ⟨20, _⟩ => ⟨S128x4096x256, .f32⟩
  | .hbm, ⟨21, _⟩ => ⟨S_, .f32⟩
  | .hbm, ⟨22, _⟩ => ⟨S128x256, .f32⟩
  | .hbm, ⟨23, _⟩ => ⟨S128x256, .f32⟩
  | .hbm, ⟨24, _⟩ => ⟨S128x256, .f32⟩
  | .hbm, ⟨25, _⟩ => ⟨S128x10, .f32⟩
  | .hbm, ⟨26, _⟩ => ⟨S128x10, .i32⟩
  | .hbm, ⟨27, _⟩ => ⟨S_, .i32⟩
  | .hbm, ⟨28, _⟩ => ⟨S128x10, .i32⟩
  | .hbm, ⟨29, _⟩ => ⟨S128x10, .i1⟩
  | .hbm, ⟨30, _⟩ => ⟨S_, .i32⟩
  | .hbm, ⟨31, _⟩ => ⟨S128x10, .i32⟩
  | .hbm, ⟨32, _⟩ => ⟨S128x10, .i32⟩
  | .hbm, ⟨33, _⟩ => ⟨S128x10, .i32⟩
  | .hbm, ⟨34, _⟩ => ⟨S128x10x1, .i32⟩
  | .hbm, ⟨35, _⟩ => ⟨S_, .i32⟩
  | .hbm, ⟨36, _⟩ => ⟨S128x10x1, .i32⟩
  | .hbm, ⟨37, _⟩ => ⟨S128x10x2, .i32⟩
  | .hbm, ⟨38, _⟩ => ⟨S128x10x256, .f32⟩
  | .hbm, ⟨39, _⟩ => ⟨S256x64, .f32⟩
  | .hbm, ⟨40, _⟩ => ⟨S128x1x64, .f32⟩
  | .hbm, ⟨41, _⟩ => ⟨S1x1x64, .f32⟩
  | .hbm, ⟨42, _⟩ => ⟨S128x1x64, .f32⟩
  | .hbm, ⟨43, _⟩ => ⟨S128x1x64, .f32⟩
  | .hbm, ⟨44, _⟩ => ⟨S64x64, .f32⟩
  | .hbm, ⟨45, _⟩ => ⟨S128x1x64, .f32⟩
  | .hbm, ⟨46, _⟩ => ⟨S1x1x64, .f32⟩
  | .hbm, ⟨47, _⟩ => ⟨S128x1x64, .f32⟩
  | .hbm, ⟨48, _⟩ => ⟨S128x1x64, .f32⟩
  | .hbm, ⟨49, _⟩ => ⟨S256x64, .f32⟩
  | .hbm, ⟨50, _⟩ => ⟨S128x10x64, .f32⟩
  | .hbm, ⟨51, _⟩ => ⟨S1x1x64, .f32⟩
  | .hbm, ⟨52, _⟩ => ⟨S128x10x64, .f32⟩
  | .hbm, ⟨53, _⟩ => ⟨S128x10x64, .f32⟩
  | .hbm, ⟨54, _⟩ => ⟨S256x64, .f32⟩
  | .hbm, ⟨55, _⟩ => ⟨S128x10x64, .f32⟩
  | .hbm, ⟨56, _⟩ => ⟨S1x1x64, .f32⟩
  | .hbm, ⟨57, _⟩ => ⟨S128x10x64, .f32⟩
  | .hbm, ⟨58, _⟩ => ⟨S128x10x64, .f32⟩
  | .hbm, ⟨59, _⟩ => ⟨S128x1x4x16, .f32⟩
  | .hbm, ⟨60, _⟩ => ⟨S128x4x1x16, .f32⟩
  | .hbm, ⟨61, _⟩ => ⟨S128x10x4x16, .f32⟩
  | .hbm, ⟨62, _⟩ => ⟨S128x4x10x16, .f32⟩
  | .hbm, ⟨63, _⟩ => ⟨S128x10x4x16, .f32⟩
  | .hbm, ⟨64, _⟩ => ⟨S128x4x10x16, .f32⟩
  | .hbm, ⟨65, _⟩ => ⟨S128x4x16x10, .f32⟩
  | .hbm, ⟨66, _⟩ => ⟨S128x4x1x10, .f32⟩
  | .hbm, ⟨67, _⟩ => ⟨S_, .f32⟩
  | .hbm, ⟨68, _⟩ => ⟨S128x4x1x10, .f32⟩
  | .hbm, ⟨69, _⟩ => ⟨S128x4x1x10, .f32⟩
  | .hbm, ⟨70, _⟩ => ⟨S_, .f32⟩
  | .hbm, ⟨71, _⟩ => ⟨S128x4x1, .f32⟩
  | .hbm, ⟨72, _⟩ => ⟨S_, .f32⟩
  | .hbm, ⟨73, _⟩ => ⟨S128x4x1, .f32⟩
  | .hbm, ⟨74, _⟩ => ⟨S128x4x1, .f32⟩
  | .hbm, ⟨75, _⟩ => ⟨S128x4x1x1, .f32⟩
  | .hbm, ⟨76, _⟩ => ⟨S128x4x1x10, .f32⟩
  | .hbm, ⟨77, _⟩ => ⟨S128x4x1x10, .f32⟩
  | .hbm, ⟨78, _⟩ => ⟨S128x4x1x10, .f32⟩
  | .hbm, ⟨79, _⟩ => ⟨S_, .f32⟩
  | .hbm, ⟨80, _⟩ => ⟨S128x4x1, .f32⟩
  | .hbm, ⟨81, _⟩ => ⟨S128x4x1x1, .f32⟩
  | .hbm, ⟨82, _⟩ => ⟨S128x4x1x10, .f32⟩
  | .hbm, ⟨83, _⟩ => ⟨S128x4x1x10, .f32⟩
  | .hbm, ⟨84, _⟩ => ⟨S128x4x1x16, .f32⟩
  | .hbm, ⟨85, _⟩ => ⟨S128x1x4x16, .f32⟩
  | .hbm, ⟨86, _⟩ => ⟨S128x1x64, .f32⟩
  | .hbm, ⟨87, _⟩ => ⟨S64x64, .f32⟩
  | .hbm, ⟨88, _⟩ => ⟨S128x1x64, .f32⟩
  | .hbm, ⟨89, _⟩ => ⟨S1x1x64, .f32⟩
  | .hbm, ⟨90, _⟩ => ⟨S128x1x64, .f32⟩
  | .hbm, ⟨91, _⟩ => ⟨S128x1x64, .f32⟩
  | .hbm, ⟨92, _⟩ => ⟨S128x64, .f32⟩
  | .hbm, ⟨93, _⟩ => ⟨S64x64, .f32⟩
  | .hbm, ⟨94, _⟩ => ⟨S128x64, .f32⟩
  | .hbm, ⟨95, _⟩ => ⟨S1x64, .f32⟩
  | .hbm, ⟨96, _⟩ => ⟨S128x64, .f32⟩
  | .hbm, ⟨97, _⟩ => ⟨S128x64, .f32⟩
  | _, _ => ⟨S128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_values : Ref sig .tc := ⟨.hbm, 25, rfl⟩
abbrev main_indices : Ref sig .tc := ⟨.hbm, 26, rfl⟩
abbrev main_c : Ref sig .tc := ⟨.hbm, 27, rfl⟩
abbrev main_v10 : Ref sig .tc := ⟨.hbm, 28, rfl⟩
abbrev main_v11 : Ref sig .tc := ⟨.hbm, 29, rfl⟩
abbrev main_c_0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_2 : Ref sig .tc := ⟨.hbm, 67, rfl⟩
abbrev main_v47 : Ref sig .tc := ⟨.hbm, 68, rfl⟩
abbrev main_v48 : Ref sig .tc := ⟨.hbm, 69, rfl⟩
abbrev main_cst_3 : Ref sig .tc := ⟨.hbm, 70, rfl⟩
abbrev main_v49 : Ref sig .tc := ⟨.hbm, 71, rfl⟩
abbrev main_cst_4 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_5 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩

abbrev nD : Nat := 1
abbrev τ : Topo := Topo.v7x

variable {F : FTy → Type} [FloatOps F]
-- ==== Proof.Select.lean ====
/-
  CHOOSING THE TEN NEAREST, as mathematics on one row of numbers. Two procedures are compared:
  (1) rounds of "find the least entry, take its first position, put +∞ there";
  (2) a stable sort of the positions, of which the first few are kept.
  Both take the positions in the order "smaller number first, of equal numbers the earlier position".
-/
module

public import Idealize.ShloMosaic.Lib.Pointwise
public import Idealize.ShloMosaic.Lib.SortFacts

@[expose] public section

open Idealize.ShloMosaic

namespace Cert.Nearest

/-- Position `a` comes before position `b`: its number is smaller, or the numbers are equal and `a` is earlier. -/
def Before {n : ℕ} (f : Fin n → EReal) (a b : Fin n) : Prop := f a < f b ∨ (f a = f b ∧ a < b)

/-- The least number of a row. -/
noncomputable def least (f : Fin 256 → EReal) : EReal := Finset.univ.fold min ⊤ f

/-- A position's own number where the row is least, and 512 elsewhere. -/
noncomputable def spot (f : Fin 256 → EReal) (c : Fin 256) : EReal := if f c = least f then ((c.val : ℝ) : EReal) else 512

/-- The position one round takes: the least of the positions where the row is least. -/
def Taken (f : Fin 256 → EReal) (c : Fin 256) : Prop := spot f c = least (spot f)

theorem least_le (f : Fin 256 → EReal) (c : Fin 256) : least f ≤ f c :=
  (Finset.le_fold_min _).mp le_rfl |>.2 c (Finset.mem_univ c)

theorem le_least {f : Fin 256 → EReal} {x : EReal} (h : ∀ c, x ≤ f c) : x ≤ least f :=
  (Finset.le_fold_min _).mpr ⟨le_top, fun c _ => h c⟩

/-- An entry that is a lower bound of the row is its least number. -/
theorem least_eq {f : Fin 256 → EReal} {c : Fin 256} (h : ∀ d, f c ≤ f d) : least f = f c :=
  le_antisymm (least_le f c) (le_least h)

theorem val_lt_512 (c : Fin 256) : ((c.val : ℝ) : EReal) < 512 := by
  have h : (c.val : ℝ) < (512 : ℝ) := by
    have := c.isLt
    exact_mod_cast (by omega : c.val < 512)
  exact EReal.coe_lt_coe_iff.mpr h

/-- If `a` comes before every other position, one round takes `a` and only `a`. -/
theorem taken_iff {f : Fin 256 → EReal} {a : Fin 256} (h : ∀ b, b ≠ a → Before f a b) (c : Fin 256) :
    Taken f c ↔ c = a := by
  have hmin : ∀ d, f a ≤ f d := fun d => by
    by_cases hd : d = a
    · rw [hd]
    · rcases h d hd with h | h
      · exact h.le
      · exact h.1.le
  have hl : least f = f a := least_eq hmin
  have hsa : spot f a = ((a.val : ℝ) : EReal) := by rw [spot, if_pos hl.symm]
  have hlt : ∀ d, d ≠ a → spot f a < spot f d := fun d hd => by
    rw [hsa, spot]
    split
    · rename_i hfd
      rcases h d hd with h' | h'
      · rw [hfd, hl] at h'; exact absurd h' (lt_irrefl _)
      · have h3 := h'.2
        rw [Fin.lt_def] at h3
        exact_mod_cast h3
    · exact val_lt_512 a
  have hs : least (spot f) = spot f a := least_eq fun d => by
    by_cases hd : d = a
    · rw [hd]
    · exact (hlt d hd).le
  constructor
  · intro hc
    by_contra hne
    exact absurd (hc.trans hs) (hlt c hne).ne'
  · rintro rfl
    exact hs.symm

/-- The row with +∞ put at the positions already taken. -/
noncomputable def cover (M : Fin 256 → Prop) [DecidablePred M] (f : Fin 256 → EReal) (c : Fin 256) : EReal :=
  if M c then ⊤ else f c

/-- ONE ROUND: when the positions taken so far are the first `k` of the order `σ`, the round takes the next one. -/
theorem taken_next {f : Fin 256 → EReal} (hf : ∀ c, f c ≠ ⊤) {σ : Fin 256 → Fin 256} (hs : Function.Surjective σ)
    (ho : ∀ i j, i < j → Before f (σ i) (σ j)) (k : Fin 256) (M : Fin 256 → Prop) [DecidablePred M]
    (hM : ∀ c, M c ↔ ∃ i : Fin 256, i.val < k.val ∧ σ i = c) (c : Fin 256) :
    Taken (cover M f) c ↔ c = σ k := by
  have hinj : ∀ i j, i < j → σ i ≠ σ j := fun i j hij e => by
    have := ho i j hij
    rw [e] at this
    rcases this with h | h
    · exact lt_irrefl _ h
    · exact lt_irrefl _ h.2
  have hk : ¬M (σ k) := fun h => by
    obtain ⟨i, hi, e⟩ := (hM _).mp h
    exact hinj i k hi e
  refine taken_iff (fun b hb => ?_) c
  obtain ⟨j, rfl⟩ := hs b
  have hck : cover M f (σ k) = f (σ k) := if_neg hk
  unfold Before
  rw [hck]
  by_cases hj : M (σ j)
  · left
    rw [cover, if_pos hj]
    exact lt_top_iff_ne_top.mpr (hf _)
  · rw [cover, if_neg hj]
    have hkj : k < j := by
      rcases lt_trichotomy k j with h | h | h
      · exact h
      · exact absurd (by rw [h]) hb
      · exact absurd ((hM _).mpr ⟨j, h, rfl⟩) hj
    exact ho k j hkj

/-- The positions taken after a round: those taken before it and the one it takes. -/
theorem taken_grow {σ : Fin 256 → Fin 256} {k : Fin 256} {M : Fin 256 → Prop}
    (hM : ∀ c, M c ↔ ∃ i : Fin 256, i.val < k.val ∧ σ i = c) (c : Fin 256) :
    (M c ∨ c = σ k) ↔ ∃ i : Fin 256, i.val < k.val + 1 ∧ σ i = c := by
  rw [hM]
  constructor
  · rintro (⟨i, hi, e⟩ | e)
    · exact ⟨i, by omega, e⟩
    · exact ⟨k, by omega, e.symm⟩
  · rintro ⟨i, hi, e⟩
    by_cases h : i.val < k.val
    · exact Or.inl ⟨i, h, e⟩
    · have : i = k := Fin.ext (by omega)
      exact Or.inr (by rw [← e, this])

/-- The insertion sort of a list whose entries ascend asks only whether a LATER position sorts before an EARLIER one. -/
theorem stableSort_ascending {n : Nat} (R R' : Fin n → Fin n → Bool) (h : ∀ a b, a < b → R b a = R' b a)
    (l : List (Fin n)) (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- … so two relations that agree on those questions sort the positions alike. -/
theorem sortedFrom_ascending {n : Nat} (R R' : Fin n → Fin n → Bool) (h : ∀ a b, a < b → R b a = R' b a) :
    sortedFrom R = sortedFrom R' := by
  have e : sortPositions n R = sortPositions n R' := stableSort_ascending R R' h _ (List.pairwise_lt_finRange n)
  funext k
  unfold sortedFrom
  rw [List.get_of_eq e]
  rfl

open Classical in
/-- A stable sort by "strictly greater key first" lists the positions in the order of `Before`, whenever a greater key
    means a smaller number. -/
theorem sorted_before {n : ℕ} {f g : Fin n → EReal} (hfg : ∀ a b, g b < g a ↔ f a < f b) (R : Fin n → Fin n → Bool)
    (hR : ∀ a b, R a b = true ↔ g b < g a) (i j : Fin n) (hij : i < j) :
    Before f (sortedFrom R i) (sortedFrom R j) := by
  have e : sortedFrom R = sortedFrom fun a b => decide (Before f a b) := by
    refine sortedFrom_ascending _ _ fun a b hab => ?_
    rw [Bool.eq_iff_iff, hR, hfg, decide_eq_true_iff, Before]
    exact ⟨Or.inl, fun h => h.elim id fun h => absurd h.2 (not_lt.mpr hab.le)⟩
  have total : ∀ a b, a ≠ b → ¬Before f b a → Before f a b := fun a b hab h => by
    unfold Before at h ⊢
    push Not at h
    rcases lt_or_eq_of_le h.1 with h1 | h1
    · exact Or.inl h1
    · exact Or.inr ⟨h1, lt_of_le_of_ne (h.2 h1.symm) hab⟩
  have ni : decide (Before f (sortedFrom R j) (sortedFrom R i)) = false := by
    rw [e]
    refine sortedFrom_noInversion (fun a b => decide (Before f a b)) _ ?_ (fun _ _ h => h) ?_ i j hij
    · intro a b h
      rw [decide_eq_true_iff] at h
      rw [decide_eq_false_iff_not]
      rintro (h1 | h1) <;> rcases h with h2 | h2
      · exact lt_asymm h1 h2
      · exact h1.ne h2.1.symm
      · exact h2.ne h1.1.symm
      · exact lt_asymm h1.2 h2.2
    · intro a b c h1 h2
      rw [decide_eq_false_iff_not] at h1 h2 ⊢
      unfold Before at h1 h2 ⊢
      push Not at h1 h2 ⊢
      refine ⟨h2.1.trans h1.1, fun hac => ?_⟩
      have hb : f b = f a := le_antisymm h1.1 (hac ▸ h2.1)
      exact (h2.2 (hb.trans hac)).trans (h1.2 hb.symm)
  refine total _ _ (fun h => hij.ne (sortedFrom_injective R h)) ?_
  rwa [decide_eq_false_iff_not] at ni

end Cert.Nearest

end
-- ==== Proof.Rounds.lean ====
/-
  THE TEN ROUNDS OF SELECTION, as the kernel runs them on all 128 rows at once. One round is named; the printed values,
  cut at odd places, are then the same round repeated ten times.
-/
module

public import proofs.«01_k».proof.Proof.Select
public import proofs.«01_k».proof.Proof.Gen.KernelIdeal.Skeleton

@[expose] public section

set_option maxRecDepth 16384

noncomputable section

open Idealize.ShloMosaic Cert.KernelIdeal Cert.KernelIdeal.Gen

namespace Cert.Nearest

/-- A number per row and column, and a mark per row and column. -/
abbrev Grid := FVec Ideal S128x256 .f32
abbrev Marks := IVec S128x256 1

/-- The least number of each row, spread over the row. -/
def rowLeast (x : Grid) : Grid :=
  broadcastTo S128x256 (shapeCast S128x1 (multiReduction .minimumf [1] S128 x 0x7F800000#32 reduces_S128x256_S128 (.inl rfl) rfl)
    shapeCasts_S128_S128x1) broadcasts_S128x1_S128x256

/-- The column number where a row is least, and 512 elsewhere. -/
def candidates (x : Grid) : Grid :=
  select (cmpf .oeq x (rowLeast x)) (k0_pay16 (F := Ideal)) (broadcast S128x256 (Scalar.ofBits .f32 0x44000000#32))

/-- The mark one round makes in each row. -/
def mark (x : Grid) : Marks := cmpf .oeq (candidates x) (rowLeast (candidates x))

/-- The rows after a round: +∞ at the mark. -/
def strike (x : Grid) : Grid := select (mark x) (broadcast S128x256 (Named.named κ "pos" 0x7F61B1E6#32)) x

/-- The marks of ten rounds together. -/
def marks (x : Grid) : Marks :=
  let x1 := strike x
  let x2 := strike x1
  let x3 := strike x2
  let x4 := strike x3
  let x5 := strike x4
  let x6 := strike x5
  let x7 := strike x6
  let x8 := strike x7
  let x9 := strike x8
  ori (ori (ori (ori (ori (ori (ori (ori (ori (ori (broadcast S128x256 0#1) (mark x)) (mark x1)) (mark x2)) (mark x3)) (mark x4))
    (mark x5)) (mark x6)) (mark x7)) (mark x8)) (mark x9)

theorem infinity_word : Ideal.ofBits .f32 0x7F800000#32 = ⊤ := by
  simp [Ideal.ofBits, Ideal.ieee]

theorem word_512 : Ideal.ofBits .f32 0x44000000#32 = (512 : EReal) := by
  have : Ideal.ofBits .f32 0x44000000#32 = ((512 : ℝ) : EReal) := by
    simp [Ideal.ofBits, Ideal.ieee, -EReal.coe_mul]; norm_num
  rw [this]; rfl

/-- A column number, as the machine makes it of a 32-bit word, is the number. -/
theorem column_number (c : Fin 256) :
    FloatOps.sitofp (F := Ideal) .f32 (BitVec.ofNat 32 c.val) = ((c.val : ℝ) : EReal) := by
  have h : (BitVec.ofNat 32 c.val).toInt = (c.val : ℤ) := by
    have := c.isLt
    rw [BitVec.toInt_eq_toNat_of_lt (by rw [BitVec.toNat_ofNat]; omega), BitVec.toNat_ofNat]
    omega
  show (((BitVec.ofNat 32 c.val).toInt : ℝ) : EReal) = _
  rw [h]
  rfl

/-- A round marks, in each row, the position `Taken` names. -/
theorem mark_iff (x : Grid) (b : Fin 128) (c : Fin 256) :
    mark x (ix2 b c) = 1#1 ↔ Taken (fun d => x (ix2 b d)) c := by
  have e : mark x (ix2 b c)
      = BitVec.ofBool (decide (spot (fun d => x (ix2 b d)) c = least (spot fun d => x (ix2 b d)))) := by
    pointwise [mark, candidates, rowLeast, k0_pay16]
    simp only [infinity_word, word_512, column_number]
    rfl
  rw [e]
  unfold Taken
  by_cases h : spot (fun d => x (ix2 b d)) c = least (spot fun d => x (ix2 b d)) <;> simp [h]

/-- A round puts +∞ where it marks and leaves the rest. -/
theorem strike_apply (x : Grid) (b : Fin 128) (c : Fin 256) :
    strike x (ix2 b c) = if mark x (ix2 b c) = 1#1 then ⊤ else x (ix2 b c) := by
  have hp : (Named.named κ "pos" 0x7F61B1E6#32 : Ideal .f32) = (⊤ : EReal) :=
    IdealRules.named_const.ideal_named_scalar _ _ _ _ rfl
  pointwise [strike]
  rw [hp]
  rfl

/-- After `k` rounds on row `b` of numbers `f`: the marks are the first `k` positions of the order `σ`, and the row holds
    +∞ at the marks and its own numbers elsewhere. -/
def Stage (f : Fin 256 → EReal) (σ : Fin 256 → Fin 256) (b : Fin 128) (k : ℕ) (x : Grid) (M : Marks) : Prop :=
  (∀ c, M (ix2 b c) = 1#1 ↔ ∃ i : Fin 256, i.val < k ∧ σ i = c)
    ∧ ∀ c, x (ix2 b c) = if M (ix2 b c) = 1#1 then ⊤ else f c

variable {f : Fin 256 → EReal} {σ : Fin 256 → Fin 256} {b : Fin 128}

/-- Before the first round nothing is marked. -/
theorem stage_zero (x : Grid) (hx : ∀ c, x (ix2 b c) = f c) : Stage f σ b 0 x (broadcast S128x256 0#1) := by
  refine ⟨fun c => ?_, fun c => ?_⟩
  · constructor
    · intro h; exact absurd (show (0#1 : BitVec 1) = 1#1 from h) (by decide)
    · rintro ⟨i, hi, -⟩; exact absurd hi (Nat.not_lt_zero _)
  · rw [hx, if_neg]
    intro h; exact absurd (show (0#1 : BitVec 1) = 1#1 from h) (by decide)

theorem or_bit : ∀ u v : BitVec 1, u ||| v = 1#1 ↔ (u = 1#1 ∨ v = 1#1) := by decide

/-- One round more. -/
theorem stage_succ (hf : ∀ c, f c ≠ ⊤) (hs : Function.Surjective σ) (ho : ∀ i j, i < j → Before f (σ i) (σ j))
    {k : ℕ} (hk : k < 256) {x : Grid} {M : Marks} (h : Stage f σ b k x M) :
    Stage f σ b (k + 1) (strike x) (ori M (mark x)) := by
  have hrow : (fun d => x (ix2 b d)) = cover (fun c => M (ix2 b c) = 1#1) f := funext h.2
  have hm : ∀ c, mark x (ix2 b c) = 1#1 ↔ c = σ ⟨k, hk⟩ := fun c => by
    rw [mark_iff, hrow]
    exact taken_next hf hs ho ⟨k, hk⟩ _ h.1 c
  have hor : ∀ c, ori M (mark x) (ix2 b c) = 1#1 ↔ (M (ix2 b c) = 1#1 ∨ c = σ ⟨k, hk⟩) := fun c => by
    rw [← hm]; exact or_bit _ _
  refine ⟨fun c => ?_, fun c => ?_⟩
  · rw [hor]
    exact taken_grow (k := ⟨k, hk⟩) (M := fun c => M (ix2 b c) = 1#1) h.1 c
  · rw [strike_apply, h.2]
    by_cases h1 : M (ix2 b c) = 1#1
    · rw [if_pos ((hor c).mpr (Or.inl h1)), if_pos h1, ite_self]
    · rw [if_neg h1]
      by_cases h2 : c = σ ⟨k, hk⟩
      · rw [if_pos ((hm c).mpr h2), if_pos ((hor c).mpr (Or.inr h2))]
      · rw [if_neg (fun h => h2 ((hm c).mp h)), if_neg (fun h => ((hor c).mp h).elim h1 h2)]

/-- THE MARKS of the ten rounds are the first ten positions of the order `σ`. -/
theorem marks_iff (hf : ∀ c, f c ≠ ⊤) (hs : Function.Surjective σ) (ho : ∀ i j, i < j → Before f (σ i) (σ j))
    (x : Grid) (hx : ∀ c, x (ix2 b c) = f c) (c : Fin 256) :
    marks x (ix2 b c) = 1#1 ↔ ∃ i : Fin 10, σ (i.castLE (by decide)) = c := by
  have s : Stage f σ b 10 _ (marks x) :=
    stage_succ hf hs ho (by decide) <| stage_succ hf hs ho (by decide) <| stage_succ hf hs ho (by decide) <|
    stage_succ hf hs ho (by decide) <| stage_succ hf hs ho (by decide) <| stage_succ hf hs ho (by decide) <|
    stage_succ hf hs ho (by decide) <| stage_succ hf hs ho (by decide) <| stage_succ hf hs ho (by decide) <|
    stage_succ hf hs ho (by decide) <| stage_zero x hx
  rw [s.1]
  constructor
  · rintro ⟨i, hi, e⟩; exact ⟨⟨i.val, hi⟩, e⟩
  · rintro ⟨i, e⟩; exact ⟨_, i.isLt, e⟩

/-! ## The printed values are these rounds -/

variable (v2 v5 v12 v14 : FVec Ideal S8x256 .f32) (v20 : FVec Ideal S128x256 .f32)

theorem pay17_eq : k0_pay17 v2 v5 v12 v14 v20 = mark (k0_pay15 v2 v5 v12 v14 v20) := rfl
theorem pay18_eq : k0_pay18 v2 v5 v12 v14 v20 = ori (broadcast S128x256 0#1) (mark (k0_pay15 v2 v5 v12 v14 v20)) := rfl
theorem pay19_eq : k0_pay19 v2 v5 v12 v14 v20 = strike (k0_pay15 v2 v5 v12 v14 v20) := rfl
theorem pay20_eq : k0_pay20 v2 v5 v12 v14 v20 = candidates (strike (k0_pay15 v2 v5 v12 v14 v20)) := rfl
theorem pay21_eq : k0_pay21 v2 v5 v12 v14 v20 = multiReduction .minimumf [1] S128
    (candidates (strike (k0_pay15 v2 v5 v12 v14 v20))) 0x7F800000#32 reduces_S128x256_S128 (.inl rfl) rfl := rfl

/-- The least number of each row, as the column of numbers it is before it is spread. -/
def leastCol (x : Grid) : FVec Ideal S128 .f32 :=
  multiReduction .minimumf [1] S128 x 0x7F800000#32 reduces_S128x256_S128 (.inl rfl) rfl

/-- Rounds two to five, from the values the first part hands on. -/
theorem second_marks (x : Grid) (M : Marks) :
    k0_pay29 (k0_pay16 (F := Ideal)) M x (candidates x) (leastCol (candidates x))
      = ori (ori (ori (ori M (mark x)) (mark (strike x))) (mark (strike (strike x)))) (mark (strike (strike (strike x)))) := rfl

theorem second_rows (x : Grid) :
    k0_pay30 (k0_pay16 (F := Ideal)) x (candidates x) (leastCol (candidates x)) = strike (strike (strike (strike x))) := rfl

theorem second_least (x : Grid) :
    k0_pay31 (k0_pay16 (F := Ideal)) x (candidates x) (leastCol (candidates x)) = leastCol (strike (strike (strike (strike x)))) := rfl

/-- Rounds six to eight. -/
theorem third_marks (x : Grid) (M : Marks) :
    k0_pay37 (k0_pay16 (F := Ideal)) M x (leastCol x) = ori (ori (ori M (mark x)) (mark (strike x))) (mark (strike (strike x))) := rfl

theorem third_rows (x : Grid) : k0_pay38 (k0_pay16 (F := Ideal)) x (leastCol x) = strike (strike (strike x)) := rfl

theorem third_candidates (x : Grid) :
    k0_pay39 (k0_pay16 (F := Ideal)) x (leastCol x) = candidates (strike (strike (strike x))) := rfl

theorem third_least (x : Grid) : k0_pay40 (k0_pay16 (F := Ideal)) x (leastCol x)
    = shapeCast S128x1 (leastCol (candidates (strike (strike (strike x))))) shapeCasts_S128_S128x1 := rfl

/-- The attention of the kernel, from the marks on: scores of all 256 rows of `K`, those not marked at −∞, the softmax of
    each row, and the mix of the rows of `V`. -/
def attention (M : Marks) (K V : FVec Ideal S256x64 .f32) (q : FVec Ideal S512x64 .f32) : FVec Ideal S512x64 .f32 :=
  let s := mulf (matmul dot_S512x64_S64x256_S512x256_1_0_0_1_n_n none q (transpose S64x256 [1, 0] K transposes_S256x64_p1_0_S64x256)
    (constant S512x256 .f32 0x00000000#32)) (broadcast S512x256 (Scalar.ofBits .f32 0x3E800000#32))
  let M4 := concatenate S512x256 0 [⟨S128x256, M⟩, ⟨S128x256, M⟩, ⟨S128x256, M⟩, ⟨S128x256, M⟩]
    concatenates_S128x256_S128x256_S128x256_S128x256_S512x256_d0
  let t := select M4 s (broadcast S512x256 (Named.named κ "neg" 0xFF61B1E6#32))
  let top := broadcastTo S512x256 (shapeCast S512x1
    (multiReduction .maximumf [1] S512 t 0xFF800000#32 reduces_S512x256_S512 (.inl rfl) rfl) shapeCasts_S512_S512x1)
    broadcasts_S512x1_S512x256
  let e := select M4 (exp (subf t top)) (broadcast S512x256 (Scalar.ofBits .f32 0x00000000#32))
  let total := broadcastTo S512x256 (shapeCast S512x1
    (multiReduction .add [1] S512 e 0x00000000#32 reduces_S512x256_S512 (.inl rfl) rfl) shapeCasts_S512_S512x1)
    broadcasts_S512x1_S512x256
  matmul dot_S512x256_S256x64_S512x64_1_0_0_1_n_n none (divf e total) V (constant S512x64 .f32 0x00000000#32)

/-- Rounds nine and ten, then the attention. -/
theorem fourth_eq (x : Grid) (M : Marks) (K V : FVec Ideal S256x64 .f32) (q : FVec Ideal S512x64 .f32) :
    k0_pay41 (k0_pay16 (F := Ideal)) M x (candidates x) (shapeCast S128x1 (leastCol (candidates x)) shapeCasts_S128_S128x1) K V q
      = attention (ori (ori M (mark x)) (mark (strike x))) K V q := rfl

end Cert.Nearest

end
-- ==== Proof.KernelArray.lean ====
/-
  WHAT THE KERNEL'S ARRAY HOLDS, as values of the blocks its two grid points read: the first point keeps the sums of its
  half of the memories, the keys, the values and the queries; the second adds its half, selects, attends and projects.
-/
module

public import proofs.«01_k».proof.Proof.Rounds
public import proofs.«01_k».proof.Proof.Gen.KernelIdeal.Value
public import Idealize.ShloMosaic.Lib.Pointwise
public import Idealize.ShloMosaic.Lib.Pipeline.ValueKit

@[expose] public section

set_option maxRecDepth 16384

noncomputable section

open Idealize.ShloMosaic Idealize.SL.Sem Cert.KernelIdeal Cert.KernelIdeal.Gen Cert.KernelIdeal.Value

namespace Cert.Nearest

/-- The summed squared distance of every observation to every column, from the two halves of the memories. -/
def distances (a b : FVec Ideal S2048x256 .f32) (o : FVec Ideal S128x256 .f32) : Grid :=
  k0_pay15 (F := Ideal) (k0_pay1 b) (k0_pay2 b) (k0_pay5 (F := Ideal) (k0_pay1 a)) (k0_pay6 (F := Ideal) (k0_pay2 a)) o

/-- The four heads' queries, one below the other. -/
def queries (o : FVec Ideal S128x256 .f32) (W : FVec Ideal S64x256 .f32) (w : FVec Ideal S1x64 .f32)
    (Q : FVec Ideal S64x64 .f32) (q : FVec Ideal S1x64 .f32) : FVec Ideal S512x64 .f32 :=
  k0_pay3 (k0_pay10 (k0_pay9 o W) w Q q) (iota .tc S512x64 32 [1] iota_S512x64_d1_w32) k0_pay11 16#32 k0_pay12 k0_pay13 k0_pay14

/-- The marks of each head's own 16 columns. -/
def heads : IVec S512x64 1 :=
  k0_pay43 (iota .tc S512x64 32 [0] iota_S512x64_d0_w32) (iota .tc S512x64 32 [1] iota_S512x64_d1_w32) 128#32 k0_pay42

variable (v2 v5 v12 v14 : FVec Ideal S8x256 .f32) (v20 : FVec Ideal S128x256 .f32)

/-- Ten rounds and the attention, as the kernel's cut values nest them. -/
theorem chain_eq (K V : FVec Ideal S256x64 .f32) (q : FVec Ideal S512x64 .f32) (M : Marks) (x y z : Grid) (l n : FVec Ideal S128 .f32)
    (w : FVec Ideal S128x1 .f32) (M' M'' : Marks) (y' z' : Grid)
    (hM : M = ori (broadcast S128x256 0#1) (mark (k0_pay15 v2 v5 v12 v14 v20)))
    (hy : y = strike (k0_pay15 v2 v5 v12 v14 v20))
    (hz : z = candidates y) (hl : l = leastCol z)
    (hM' : M' = k0_pay29 (k0_pay16 (F := Ideal)) M y z l) (hy' : y' = k0_pay30 (k0_pay16 (F := Ideal)) y z l)
    (hn : n = k0_pay31 (k0_pay16 (F := Ideal)) y z l)
    (hM'' : M'' = k0_pay37 (k0_pay16 (F := Ideal)) M' y' n)
    (hx : x = k0_pay38 (k0_pay16 (F := Ideal)) y' n) (hz' : z' = k0_pay39 (k0_pay16 (F := Ideal)) y' n)
    (hw : w = k0_pay40 (k0_pay16 (F := Ideal)) y' n) :
    k0_pay41 (k0_pay16 (F := Ideal)) M'' x z' w K V q = attention (marks (k0_pay15 v2 v5 v12 v14 v20)) K V q := by
  subst hz hl
  rw [second_marks] at hM'
  rw [second_rows] at hy'
  rw [second_least, ← hy'] at hn
  subst hn
  rw [third_marks] at hM''
  rw [third_rows] at hx
  rw [third_candidates, ← hx] at hz'
  rw [third_least, ← hx] at hw
  subst hz' hw
  rw [fourth_eq]
  subst hx hM'' hy' hM' hy hM
  rfl

variable (m : (ℓ : Loc nD τ sig) → Buf (Elt Ideal) ℓ)

/-- The first grid point, and the second. -/
abbrev first : Fin cfg0.N := ⟨0, lt_of_lt_of_eq (by decide) N_0.symm⟩
abbrev second : Fin cfg0.N := ⟨1, lt_of_lt_of_eq (by decide) N_0.symm⟩

set_option maxHeartbeats 2000000 in
/-- The result array after the run, as a value of the blocks read. -/
theorem array_blocks (c : Dev nD) : G15 m c =
    k0_pay4 (attention (marks (distances (iblk m c 1 first) (iblk m c 1 second) (iblk m c 0 second)))
      (k0_pay7 (iblk m c 2 first) (iblk m c 7 first) (iblk m c 8 first))
      (k0_pay8 (iblk m c 2 first) (iblk m c 9 first) (iblk m c 10 first))
      (queries (iblk m c 0 first) (iblk m c 3 first) (iblk m c 4 first) (iblk m c 5 first) (iblk m c 6 first)))
      heads (iblk m c 11 second) (iblk m c 12 second) (iblk m c 13 second) (iblk m c 14 second) := by
  rw [G15_last, show Pipeline.accAt (fun n h => stAt0 m c n h junk0) (stAt0 m c) 0 1 (lt_of_lt_of_eq (by decide) N_0.symm)
      = stAt0 m c second.val second.isLt (stAt0 m c first.val first.isLt junk0) from rfl,
    stAt0_B m c second _ (by decide) (by decide), stAt0_A m c first _ (by decide) (by decide)]
  dsimp only
  funext j
  frame_out
  have kept0 : ∀ X, View.read (Elt Ideal) (View.whole cc0_scratch0) ((Memref.isWhole_whole cc0_scratch0).unread X) = X :=
    fun X => (Memref.isWhole_whole cc0_scratch0).read_unread X
  have kept1 : ∀ X, View.read (Elt Ideal) (View.whole cc0_scratch1) ((Memref.isWhole_whole cc0_scratch1).unread X) = X :=
    fun X => (Memref.isWhole_whole cc0_scratch1).read_unread X
  have kept2 : ∀ X, View.read (Elt Ideal) (View.whole cc0_scratch2) ((Memref.isWhole_whole cc0_scratch2).unread X) = X :=
    fun X => (Memref.isWhole_whole cc0_scratch2).read_unread X
  have kept3 : ∀ X, View.read (Elt Ideal) (View.whole cc0_scratch3) ((Memref.isWhole_whole cc0_scratch3).unread X) = X :=
    fun X => (Memref.isWhole_whole cc0_scratch3).read_unread X
  have kept4 : ∀ X, View.read (Elt Ideal) (View.whole cc0_scratch4) ((Memref.isWhole_whole cc0_scratch4).unread X) = X :=
    fun X => (Memref.isWhole_whole cc0_scratch4).read_unread X
  simp only [kept0, kept1, kept2, kept3, kept4]
  refine congrFun (congrArg (fun z => k0_pay4 z heads (iblk m c 11 second) (iblk m c 12 second) (iblk m c 13 second) (iblk m c 14 second)) ?_) j
  exact chain_eq _ _ _ _ _ _ _ _ _ _ _ _ _ _ _ _ _ _ _ (pay18_eq _ _ _ _ _) (pay19_eq _ _ _ _ _)
    (pay20_eq _ _ _ _ _) (pay21_eq _ _ _ _ _) rfl rfl rfl rfl rfl rfl rfl

end Cert.Nearest

end
-- ==== Proof.Blocks.lean ====
/-
  THE BLOCKS THE KERNEL READS, as entries of its argument arrays: the observations and the weights whole, the memories by
  halves of their rows, their tail columns, and the biases as one row each.
-/
module

public import proofs.«01_k».proof.Proof.KernelArray
import Idealize.ShloMosaic.Lib.Pipeline.ValueKit
import Idealize.ShloMosaic.Lib.Claim
import Idealize.ShloMosaic.Lib.Pointwise

@[expose] public section

set_option maxRecDepth 16384

noncomputable section

open Idealize.ShloMosaic Idealize.SL.Sem Cert.KernelIdeal Cert.KernelIdeal.Gen Cert.KernelIdeal.Value

namespace Cert.Nearest

/-- Two tables that agree at every row and column are the same. -/
theorem funext2 {a b : ℕ} {α : Type} {f g : (⟨2, ![a, b]⟩ : Shape).Idx → α} (h : ∀ i k, f (ix2 i k) = g (ix2 i k)) : f = g :=
  funext fun j => by rw [eq_ix2 j]; exact h _ _

variable (m : (ℓ : Loc nD τ sig) → Buf (Elt Ideal) ℓ) (c : Dev nD)

theorem index0 : ∀ t : Fin cfg0.N, win0_0.index t = ![0, 0] := (by decide +kernel : ∀ t : Fin grid0.N, _)
theorem index1 : ∀ t : Fin cfg0.N, win0_1.index t = ![(grid0.coords t 0).val, 0] := (by decide +kernel : ∀ t : Fin grid0.N, _)
theorem index2 : ∀ t : Fin cfg0.N, win0_2.index t = ![0, 1] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![0, 0] := (by decide +kernel : ∀ t : Fin grid0.N, _)
theorem index12 : ∀ t : Fin cfg0.N, win0_12.index t = ![0, 0] := (by decide +kernel : ∀ t : Fin grid0.N, _)
theorem index13 : ∀ t : Fin cfg0.N, win0_13.index t = ![0, 0] := (by decide +kernel : ∀ t : Fin grid0.N, _)
theorem index14 : ∀ t : Fin cfg0.N, win0_14.index t = ![0, 0] := (by decide +kernel : ∀ t : Fin grid0.N, _)

/-- The two points' coordinates. -/
theorem coords_first : (grid0.coords first 0).val = 0 := by decide +kernel
theorem coords_second : (grid0.coords second 0).val = 1 := by decide +kernel

/-- The memories' block of a point: its half of the rows, in the first 256 columns. -/
theorem block1 (t : Fin cfg0.N) (i : Fin 2048) (k : Fin 256) (r : Fin 4096) (hr : r.val = (grid0.coords t 0).val * 2048 + i.val) :
    iblk m c 1 t (ix2 i k) = m ((c.tc : Thread nD τ).loc main_arg1) (ix2 r ⟨k.val, by omega⟩) := by
  blk_ext [iblk, V, index1 t]

theorem block1_first (i : Fin 2048) (k : Fin 256) :
    iblk m c 1 first (ix2 i k) = m ((c.tc : Thread nD τ).loc main_arg1) (ix2 ⟨i.val, by omega⟩ ⟨k.val, by omega⟩) :=
  block1 m c first i k ⟨i.val, by omega⟩ (by rw [coords_first]; show i.val = 0 * 2048 + i.val; omega)

theorem block1_second (i : Fin 2048) (k : Fin 256) :
    iblk m c 1 second (ix2 i k) = m ((c.tc : Thread nD τ).loc main_arg1) (ix2 ⟨2048 + i.val, by omega⟩ ⟨k.val, by omega⟩) :=
  block1 m c second i k ⟨2048 + i.val, by omega⟩ (by rw [coords_second])

/-- The memories' tail: the first 256 rows, in the last 256 columns. -/
theorem block2 (t : Fin cfg0.N) (i : Fin 256) (k : Fin 256) :
    iblk m c 2 t (ix2 i k) = m ((c.tc : Thread nD τ).loc main_arg1) (ix2 ⟨i.val, by omega⟩ ⟨256 + k.val, by omega⟩) := by
  blk_ext [iblk, V, index2 t]

/-! The arrays read whole. -/

theorem block0 (t : Fin cfg0.N) : (iblk m c 0 t : FVec Ideal S128x256 .f32) = m ((c.tc : Thread nD τ).loc main_arg0) := by
  refine funext2 fun i k => ?_
  blk_ext [iblk, V, index0 t]

theorem block3 (t : Fin cfg0.N) : (iblk m c 3 t : FVec Ideal S64x256 .f32) = m ((c.tc : Thread nD τ).loc main_arg2) := by
  refine funext2 fun i k => ?_
  blk_ext [iblk, V, index3 t]

theorem block5 (t : Fin cfg0.N) : (iblk m c 5 t : FVec Ideal S64x64 .f32) = m ((c.tc : Thread nD τ).loc main_arg4) := by
  refine funext2 fun i k => ?_
  blk_ext [iblk, V, index5 t]

theorem block7 (t : Fin cfg0.N) : (iblk m c 7 t : FVec Ideal S64x256 .f32) = m ((c.tc : Thread nD τ).loc main_arg6) := by
  refine funext2 fun i k => ?_
  blk_ext [iblk, V, index7 t]

theorem block9 (t : Fin cfg0.N) : (iblk m c 9 t : FVec Ideal S64x256 .f32) = m ((c.tc : Thread nD τ).loc main_arg8) := by
  refine funext2 fun i k => ?_
  blk_ext [iblk, V, index9 t]

theorem block11 (t : Fin cfg0.N) : (iblk m c 11 t : FVec Ideal S64x64 .f32) = m ((c.tc : Thread nD τ).loc main_arg10) := by
  refine funext2 fun i k => ?_
  blk_ext [iblk, V, index11 t]

theorem block13 (t : Fin cfg0.N) : (iblk m c 13 t : FVec Ideal S64x64 .f32) = m ((c.tc : Thread nD τ).loc main_arg12) := by
  refine funext2 fun i k => ?_
  blk_ext [iblk, V, index13 t]

/-! The biases: one row each. -/

theorem block4 (t : Fin cfg0.N) (k : Fin 64) : iblk m c 4 t (ix2 0 k) = m ((c.tc : Thread nD τ).loc main_arg3) (ix1 k) := by
  blk_simp [iblk]
  entry_read
  pointwise []
  blk_ext [index4 t]

theorem block6 (t : Fin cfg0.N) (k : Fin 64) : iblk m c 6 t (ix2 0 k) = m ((c.tc : Thread nD τ).loc main_arg5) (ix1 k) := by
  blk_simp [iblk]
  entry_read
  pointwise []
  blk_ext [index6 t]

theorem block8 (t : Fin cfg0.N) (k : Fin 64) : iblk m c 8 t (ix2 0 k) = m ((c.tc : Thread nD τ).loc main_arg7) (ix1 k) := by
  blk_simp [iblk]
  entry_read
  pointwise []
  blk_ext [index8 t]

theorem block10 (t : Fin cfg0.N) (k : Fin 64) : iblk m c 10 t (ix2 0 k) = m ((c.tc : Thread nD τ).loc main_arg9) (ix1 k) := by
  blk_simp [iblk]
  entry_read
  pointwise []
  blk_ext [index10 t]

theorem block12 (t : Fin cfg0.N) (k : Fin 64) : iblk m c 12 t (ix2 0 k) = m ((c.tc : Thread nD τ).loc main_arg11) (ix1 k) := by
  blk_simp [iblk]
  entry_read
  pointwise []
  blk_ext [index12 t]

theorem block14 (t : Fin cfg0.N) (k : Fin 64) : iblk m c 14 t (ix2 0 k) = m ((c.tc : Thread nD τ).loc main_arg13) (ix1 k) := by
  blk_simp [iblk]
  entry_read
  pointwise []
  blk_ext [index14 t]

end Cert.Nearest

end
-- ==== Proof.Heads.lean ====
/-
  THE FOUR HEADS, one below the other: row `128·h + b` is head `h` of row `b`, and a column `d` belongs to head `d / 16`.
-/
module

public import proofs.«01_k».proof.Proof.KernelArray

@[expose] public section

set_option maxRecDepth 16384

noncomputable section

open Idealize.ShloMosaic Cert.KernelIdeal Cert.KernelIdeal.Gen

namespace Cert.Nearest

/-- Head `h` of row `b`, among the 512 rows. -/
def below (h : Fin 4) (b : Fin 128) : Fin 512 := ⟨h.val * 128 + b.val, by omega⟩

/-- 1 on head `h`'s own columns, 0 on the others. -/
def share (h : Fin 4) (d : Fin 64) : EReal := if d.val / 16 = h.val then 1 else 0

/-- The row number divided by 128, rounded down, as the kernel computes it on words. -/
def rowHead (r : Fin 512) : BitVec 32 :=
  Scalar.select
    (IntOp.andi
      (IntOp.cmpi .ne
        (IntOp.subi (BitVec.setWidth 32 (IntOp.cmpi .sgt (BitVec.ofNat 32 r.val) 0#32))
          (BitVec.setWidth 32 (IntOp.cmpi .slt (BitVec.ofNat 32 r.val) 0#32)))
        (Scalar.subi (Scalar.extui (Scalar.cmpi .sgt 128#32 0#32)) (Scalar.extui (Scalar.cmpi .slt 128#32 0#32))))
      (IntOp.cmpi .ne (IntOp.remsi .vector (BitVec.ofNat 32 r.val) 128#32) 0#32))
    (IntOp.subi (IntOp.divsi .vector (BitVec.ofNat 32 r.val) 128#32) 1#32)
    (IntOp.divsi .vector (BitVec.ofNat 32 r.val) 128#32)

/-- The column number divided by 16, rounded down. -/
def columnHead (d : Fin 64) : BitVec 32 :=
  Scalar.select
    (IntOp.andi
      (IntOp.cmpi .ne
        (IntOp.subi (BitVec.setWidth 32 (IntOp.cmpi .sgt (BitVec.ofNat 32 d.val) 0#32))
          (BitVec.setWidth 32 (IntOp.cmpi .slt (BitVec.ofNat 32 d.val) 0#32)))
        (Scalar.subi (Scalar.extui (Scalar.cmpi .sgt 16#32 0#32)) (Scalar.extui (Scalar.cmpi .slt 16#32 0#32))))
      (IntOp.cmpi .ne (IntOp.remsi .vector (BitVec.ofNat 32 d.val) 16#32) 0#32))
    (IntOp.subi (IntOp.divsi .vector (BitVec.ofNat 32 d.val) 16#32) 1#32)
    (IntOp.divsi .vector (BitVec.ofNat 32 d.val) 16#32)

theorem rowHead_eq : ∀ r : Fin 512, rowHead r = BitVec.ofNat 32 (r.val / 128) := by decide +kernel

theorem columnHead_eq : ∀ d : Fin 64, columnHead d = BitVec.ofNat 32 (d.val / 16) := by decide +kernel

/-- The mask of head and column as a number: that column's share of the head. -/
theorem share_word (h : Fin 4) (b : Fin 128) (d : Fin 64) :
    (FloatOps.sitofp .f32 (BitVec.setWidth 32 (IntOp.cmpi .eq (rowHead (below h b)) (columnHead d))) : Ideal .f32) = share h d := by
  have hr : (below h b).val / 128 = h.val := by unfold below; show (h.val * 128 + b.val) / 128 = h.val; omega
  rw [rowHead_eq, columnHead_eq, hr]
  have key : ∀ (h : Fin 4) (e : Fin 4), BitVec.setWidth 32 (IntOp.cmpi .eq (BitVec.ofNat 32 h.val) (BitVec.ofNat 32 e.val))
      = if e.val = h.val then 1#32 else 0#32 := by decide
  have := key h ⟨d.val / 16, by omega⟩
  rw [this]
  unfold share
  show (((if d.val / 16 = h.val then 1#32 else 0#32 : BitVec 32).toInt : ℝ) : EReal) = _
  split <;> simp

/-- The kernel's query of a row, before it is split between the heads. -/
def query (o : FVec Ideal S128x256 .f32) (W : FVec Ideal S64x256 .f32) (w : FVec Ideal S1x64 .f32)
    (Q : FVec Ideal S64x64 .f32) (q : FVec Ideal S1x64 .f32) (b : Fin 128) (d : Fin 64) : EReal :=
  ∑ x, (∑ y, o (ix2 b y) * W (ix2 x y) + w (ix2 0 x)) * Q (ix2 d x) + q (ix2 0 d)

/-- The split queries: the row's query on the head's own columns. -/
theorem queries_apply (o : FVec Ideal S128x256 .f32) (W : FVec Ideal S64x256 .f32) (w : FVec Ideal S1x64 .f32)
    (Q : FVec Ideal S64x64 .f32) (q : FVec Ideal S1x64 .f32) (h : Fin 4) (b : Fin 128) (d : Fin 64) :
    queries o W w Q q (ix2 (below h b) d) = query o W w Q q b d * share h d := by
  rw [← share_word h b d]
  pointwise [queries, k0_pay3, k0_pay9, k0_pay10, k0_pay11, k0_pay12, k0_pay13, k0_pay14]
  refine congrArg₂ (· * ·) ?_ rfl
  unfold query
  have hb := b.isLt
  match h with
  | 0 => rw [dif_pos (by unfold below; show 0 * 128 + b.val < 128; omega)]; simp [below]
  | 1 =>
    rw [dif_neg (by unfold below; show ¬(1 * 128 + b.val < 128); omega),
      dif_pos (by unfold below; show 1 * 128 + b.val - 128 < 128; omega)]; simp [below]
  | 2 =>
    rw [dif_neg (by unfold below; show ¬(2 * 128 + b.val < 128); omega),
      dif_neg (by unfold below; show ¬(2 * 128 + b.val - 128 < 128); omega),
      dif_pos (by unfold below; show 2 * 128 + b.val - 128 - 128 < 128; omega)]
    have e : ∀ p, (⟨(below 2 b).val - 128 - 128, p⟩ : Fin 128) = b := fun p => Fin.ext (by
      unfold below; show 2 * 128 + b.val - 128 - 128 = b.val; omega)
    simp only [e]
  | 3 =>
    rw [dif_neg (by unfold below; show ¬(3 * 128 + b.val < 128); omega),
      dif_neg (by unfold below; show ¬(3 * 128 + b.val - 128 < 128); omega),
      dif_neg (by unfold below; show ¬(3 * 128 + b.val - 128 - 128 < 128); omega)]
    have e : ∀ p, (⟨(below 3 b).val - 128 - 128 - 128, p⟩ : Fin 128) = b := fun p => Fin.ext (by
      unfold below; show 3 * 128 + b.val - 128 - 128 - 128 = b.val; omega)
    simp only [e]

/-- Four copies of the marks, one below the other. -/
def stack (M : Marks) : IVec S512x256 1 := concatenate S512x256 0 [⟨S128x256, M⟩, ⟨S128x256, M⟩, ⟨S128x256, M⟩, ⟨S128x256, M⟩]
  concatenates_S128x256_S128x256_S128x256_S128x256_S512x256_d0

theorem stack_apply (M : Marks) (h : Fin 4) (b : Fin 128) (c : Fin 256) : stack M (ix2 (below h b) c) = M (ix2 b c) := by
  pointwise [stack]
  have hb := b.isLt
  match h with
  | 0 => rw [dif_pos (by unfold below; show 0 * 128 + b.val < 128; omega)]; simp [below]
  | 1 =>
    rw [dif_neg (by unfold below; show ¬(1 * 128 + b.val < 128); omega),
      dif_pos (by unfold below; show 1 * 128 + b.val - 128 < 128; omega)]; simp [below]
  | 2 =>
    rw [dif_neg (by unfold below; show ¬(2 * 128 + b.val < 128); omega),
      dif_neg (by unfold below; show ¬(2 * 128 + b.val - 128 < 128); omega),
      dif_pos (by unfold below; show 2 * 128 + b.val - 128 - 128 < 128; omega)]
    have e : ∀ p, (⟨(below 2 b).val - 128 - 128, p⟩ : Fin 128) = b := fun p => Fin.ext (by
      unfold below; show 2 * 128 + b.val - 128 - 128 = b.val; omega)
    simp only [e]
  | 3 =>
    rw [dif_neg (by unfold below; show ¬(3 * 128 + b.val < 128); omega),
      dif_neg (by unfold below; show ¬(3 * 128 + b.val - 128 < 128); omega),
      dif_neg (by unfold below; show ¬(3 * 128 + b.val - 128 - 128 < 128); omega)]
    have e : ∀ p, (⟨(below 3 b).val - 128 - 128 - 128, p⟩ : Fin 128) = b := fun p => Fin.ext (by
      unfold below; show 3 * 128 + b.val - 128 - 128 - 128 = b.val; omega)
    simp only [e]

end Cert.Nearest

end
-- ==== Proof.Soft.lean ====
/-
  THE SOFTMAX OVER MARKED COLUMNS. All 256 columns scored, those not marked at −∞ and at weight 0, weigh as the marked
  ones alone; and a head's score over all 64 columns, the other heads' at 0, is the score over its own 16.
-/
module

public import proofs.«01_k».proof.Proof.Heads

@[expose] public section

noncomputable section

open Idealize.ShloMosaic

namespace Cert.Nearest

/-- A sum over all positions that is 0 off the picked ones is the sum over the picks. -/
theorem sum_picked {n k : ℕ} (p : Fin k → Fin n) (hp : Function.Injective p) (P : Fin n → Prop) [DecidablePred P]
    (hP : ∀ c, P c ↔ ∃ i, p i = c) (g : Fin n → EReal) : ∑ c, (if P c then g c else 0) = ∑ i, g (p i) := by
  rw [← Finset.sum_filter, ← Finset.sum_image (s := Finset.univ) (g := p) (f := g) (fun i _ j _ h => hp h)]
  refine Finset.sum_congr (Finset.ext fun c => ?_) (fun _ _ => rfl)
  simp [hP]

/-- The mix of `v` by the softmax of `s`. -/
def soft {n : ℕ} (s v : Fin n → EReal) : EReal :=
  ∑ i, Ideal.div (Ideal.exp (s i - Finset.univ.fold max ⊥ s)) (∑ j, Ideal.exp (s j - Finset.univ.fold max ⊥ s)) * v i

/-- The same over marked positions only, by marks: the others score −∞ and weigh 0. -/
def masked {n : ℕ} (m : Fin n → BitVec 1) (s v : Fin n → EReal) : EReal :=
  ∑ c, Ideal.div
      (Scalar.select (m c) (Ideal.exp (Scalar.select (m c) (s c) ⊥ - Finset.univ.fold max ⊥ fun d => Scalar.select (m d) (s d) ⊥)) 0)
      (∑ e, Scalar.select (m e)
        (Ideal.exp (Scalar.select (m e) (s e) ⊥ - Finset.univ.fold max ⊥ fun d => Scalar.select (m d) (s d) ⊥)) 0) * v c

theorem exp_nonneg (x : EReal) : 0 ≤ Ideal.exp x := by
  induction x with
  | bot => exact le_refl (0 : EReal)
  | top => exact le_top
  | coe r => rw [Ideal.exp_coe]; exact_mod_cast (Real.exp_pos r).le

/-- The softmax's denominator is not 0: the greatest score weighs 1 in it. -/
theorem weights_ne_zero {n : ℕ} (hn : 0 < n) (s : Fin n → ℝ) :
    ∑ j, Ideal.exp (((s j : ℝ) : EReal) - Finset.univ.fold max ⊥ fun i => ((s i : ℝ) : EReal)) ≠ 0 := by
  obtain ⟨i, -, hi⟩ := Finset.exists_mem_eq_sup (Finset.univ : Finset (Fin n)) ⟨⟨0, hn⟩, Finset.mem_univ _⟩
    (fun i => ((s i : ℝ) : EReal))
  have hf : Finset.univ.fold max ⊥ (fun i => ((s i : ℝ) : EReal)) = ((s i : ℝ) : EReal) := hi
  rw [hf]
  have h1 : Ideal.exp (((s i : ℝ) : EReal) - ((s i : ℝ) : EReal)) = 1 := by
    rw [← EReal.coe_sub, sub_self, Ideal.exp_coe, Real.exp_zero]; rfl
  have h2 := Finset.single_le_sum (f := fun j => Ideal.exp (((s j : ℝ) : EReal) - ((s i : ℝ) : EReal)))
    (fun j _ => exp_nonneg _) (Finset.mem_univ i)
  rw [h1] at h2
  exact (lt_of_lt_of_le zero_lt_one h2).ne'

theorem select_pos {b : BitVec 1} (h : b = 1#1) (x y : EReal) : Scalar.select b x y = x := if_pos h

theorem select_neg {b : BitVec 1} (h : ¬b = 1#1) (x y : EReal) : Scalar.select b x y = y := if_neg h

/-- With real scores, the softmax over the marked positions is the softmax over the picks. -/
theorem masked_eq_soft {n k : ℕ} (hk : 0 < k) (m : Fin n → BitVec 1) (p : Fin k → Fin n) (hp : Function.Injective p)
    (hm : ∀ c, m c = 1#1 ↔ ∃ i, p i = c) (s : Fin n → ℝ) (v : Fin n → EReal) :
    masked m (fun c => ((s c : ℝ) : EReal)) v = soft (fun i => ((s (p i) : ℝ) : EReal)) (fun i => v (p i)) := by
  have htop : (Finset.univ.fold max ⊥ fun d => Scalar.select (m d) ((s d : ℝ) : EReal) ⊥)
      = Finset.univ.fold max ⊥ fun i => ((s (p i) : ℝ) : EReal) := by
    show Finset.univ.sup _ = Finset.univ.sup _
    refine le_antisymm (Finset.sup_le fun c _ => ?_) (Finset.sup_le fun i _ => ?_)
    · unfold Scalar.select
      split
      · rename_i h
        obtain ⟨i, rfl⟩ := (hm c).mp h
        exact Finset.le_sup (f := fun i => ((s (p i) : ℝ) : EReal)) (Finset.mem_univ i)
      · exact bot_le
    · refine le_trans (le_of_eq ?_) (Finset.le_sup (f := fun d => Scalar.select (m d) ((s d : ℝ) : EReal) ⊥) (Finset.mem_univ (p i)))
      exact (select_pos ((hm (p i)).mpr ⟨i, rfl⟩) _ _).symm
  unfold masked soft
  rw [htop]
  generalize htt : (Finset.univ.fold max ⊥ fun i => ((s (p i) : ℝ) : EReal)) = T
  have hw : ∀ c, Scalar.select (m c) (Ideal.exp (Scalar.select (m c) ((s c : ℝ) : EReal) ⊥ - T)) 0
      = if m c = 1#1 then Ideal.exp (((s c : ℝ) : EReal) - T) else 0 := fun c => by
    by_cases h : m c = 1#1
    · rw [if_pos h, select_pos h, select_pos h]
    · rw [if_neg h, select_neg h]
  simp only [hw]
  rw [sum_picked p hp (fun c => m c = 1#1) hm (fun c => Ideal.exp (((s c : ℝ) : EReal) - T))]
  have hS : (∑ i, Ideal.exp (((s (p i) : ℝ) : EReal) - T)) ≠ 0 := by rw [← htt]; exact weights_ne_zero hk (fun i => s (p i))
  generalize (∑ i, Ideal.exp (((s (p i) : ℝ) : EReal) - T)) = S at hS
  rw [← sum_picked p hp (fun c => m c = 1#1) hm (fun c => Ideal.div (Ideal.exp (((s c : ℝ) : EReal) - T)) S * v c)]
  refine Finset.sum_congr rfl fun c _ => ?_
  split
  · rfl
  · unfold Ideal.div; rw [if_neg hS, zero_mul, zero_mul]

/-- A head's own 16 columns. -/
def own (h : Fin 4) (e : Fin 16) : Fin 64 := ⟨h.val * 16 + e.val, by omega⟩

theorem own_injective (h : Fin 4) : Function.Injective (own h) := fun e f hef => by
  have := congrArg Fin.val hef
  simp only [own] at this
  exact Fin.ext (by omega)

theorem own_iff (h : Fin 4) (d : Fin 64) : d.val / 16 = h.val ↔ ∃ e, own h e = d := by
  constructor
  · intro hd
    exact ⟨⟨d.val % 16, Nat.mod_lt _ (by decide)⟩, Fin.ext (by simp only [own]; omega)⟩
  · rintro ⟨e, rfl⟩
    simp only [own]; omega

/-- The score over 64 columns, the query masked to the head's own: the score over those 16. -/
theorem score_own (h : Fin 4) (q k : Fin 64 → EReal) :
    ∑ d, q d * share h d * k d = ∑ e, q (own h e) * k (own h e) := by
  rw [← sum_picked (own h) (own_injective h) (fun d => d.val / 16 = h.val) (own_iff h) (fun d => q d * k d)]
  refine Finset.sum_congr rfl fun d _ => ?_
  unfold share
  split
  · rw [mul_one]
  · rw [mul_zero, zero_mul]

theorem word_quarter : Ideal.ofBits .f32 0x3E800000#32 = ((1 / 4 : ℝ) : EReal) := by
  simp [Ideal.ofBits, Ideal.ieee, -EReal.coe_mul]; norm_num

theorem word_4 : Ideal.ofBits .f32 0x40800000#32 = ((4 : ℝ) : EReal) := by
  simp [Ideal.ofBits, Ideal.ieee, -EReal.coe_mul]; norm_num

/-- A quarter of it is it over four. -/
theorem quarter (x : EReal) : x * Ideal.ofBits .f32 0x3E800000#32 = Ideal.div x (Ideal.ofBits .f32 0x40800000#32) := by
  rw [word_quarter, word_4, Ideal.div_coe (by norm_num)]

/-- Over the heads, each row's own share of a column sums to the column's own head. -/
theorem sum_shares (o : Fin 4 → EReal) (d : Fin 64) :
    o 0 * share 0 d + o 1 * share 1 d + o 2 * share 2 d + o 3 * share 3 d = o ⟨d.val / 16, by omega⟩ := by
  have key : ∀ h : Fin 4, d.val / 16 = h.val → o 0 * share 0 d + o 1 * share 1 d + o 2 * share 2 d + o 3 * share 3 d = o h := by
    intro h hd
    unfold share
    rw [hd]
    match h with
    | 0 => simp
    | 1 => simp
    | 2 => simp
    | 3 => simp
  exact key ⟨d.val / 16, by omega⟩ rfl

end Cert.Nearest

end
-- ==== Proof.KernelValue.lean ====
/-
  THE KERNEL'S RESULT AT A ROW AND A COLUMN, as sums over the blocks it reads.
-/
module

public import proofs.«01_k».proof.Proof.Soft

@[expose] public section

set_option maxRecDepth 16384

noncomputable section

open Idealize.ShloMosaic Cert.KernelIdeal Cert.KernelIdeal.Gen

namespace Cert.Nearest

theorem neg_value : (Named.named κ "neg" 0xFF61B1E6#32 : Ideal .f32) = (⊥ : EReal) :=
  IdealRules.named_const.ideal_named_scalar _ _ _ _ rfl

theorem word_bottom : Ideal.ofBits .f32 0xFF800000#32 = ⊥ := by
  simp [Ideal.ofBits, Ideal.ieee]

/-- The attention of head `h` of row `b`: the masked softmax of its scores over the keys, mixing the values. -/
theorem attention_apply (M : Marks) (K V : FVec Ideal S256x64 .f32) (q : FVec Ideal S512x64 .f32) (h : Fin 4) (b : Fin 128)
    (d : Fin 64) : attention M K V q (ix2 (below h b) d) = masked (fun c => M (ix2 b c))
      (fun c => (∑ x, q (ix2 (below h b) x) * K (ix2 c x)) * Ideal.ofBits .f32 0x3E800000#32) (fun c => V (ix2 c d)) := by
  unfold attention
  rw [show concatenate S512x256 0 [⟨S128x256, M⟩, ⟨S128x256, M⟩, ⟨S128x256, M⟩, ⟨S128x256, M⟩]
    concatenates_S128x256_S128x256_S128x256_S128x256_S512x256_d0 = stack M from rfl]
  have hM : (fun c => M (ix2 b c)) = fun c => stack M (ix2 (below h b) c) := funext fun c => (stack_apply M h b c).symm
  rw [hM]
  generalize stack M = M4
  generalize below h b = r
  pointwise []
  unfold masked
  rw [neg_value, word_bottom]

/-- The keys (and, with the other weights, the values): the memories' tail rows projected. -/
def projected (A : FVec Ideal S256x256 .f32) (W : FVec Ideal S64x256 .f32) (w : FVec Ideal S1x64 .f32) (c : Fin 256) (d : Fin 64) :
    EReal := ∑ x, A (ix2 c x) * W (ix2 d x) + w (ix2 0 d)

theorem keys_apply (A : FVec Ideal S256x256 .f32) (W : FVec Ideal S64x256 .f32) (w : FVec Ideal S1x64 .f32) (c : Fin 256)
    (d : Fin 64) : k0_pay7 (F := Ideal) A W w (ix2 c d) = projected A W w c d := by
  pointwise [k0_pay7]; rfl

theorem values_apply (A : FVec Ideal S256x256 .f32) (W : FVec Ideal S64x256 .f32) (w : FVec Ideal S1x64 .f32) (c : Fin 256)
    (d : Fin 64) : k0_pay8 (F := Ideal) A W w (ix2 c d) = projected A W w c d := by
  pointwise [k0_pay8]; rfl

/-- The last two projections of a row `z`. -/
def twice (z : Fin 64 → EReal) (W : FVec Ideal S64x64 .f32) (w : Fin 64 → EReal) (Q : FVec Ideal S64x64 .f32) (q : Fin 64 → EReal)
    (d : Fin 64) : EReal := ∑ x, (∑ y, z y * W (ix2 x y) + w x) * Q (ix2 d x) + q d

/-- The mask of the heads, as a number, is each column's share of the head. -/
theorem heads_word (h : Fin 4) (b : Fin 128) (d : Fin 64) :
    (FloatOps.sitofp .f32 (BitVec.setWidth 32 (heads (ix2 (below h b) d))) : Ideal .f32) = share h d := by
  rw [← share_word h b d]
  pointwise [heads, k0_pay43, k0_pay42]
  rfl

/-- The heads gathered and projected. -/
theorem output_apply (A : FVec Ideal S512x64 .f32) (W : FVec Ideal S64x64 .f32) (w : FVec Ideal S1x64 .f32)
    (Q : FVec Ideal S64x64 .f32) (q : FVec Ideal S1x64 .f32) (b : Fin 128) (d : Fin 64) :
    k0_pay4 (F := Ideal) A heads W w Q q (ix2 b d)
      = twice (fun y => A (ix2 (below ⟨y.val / 16, by omega⟩ b) y)) W (fun x => w (ix2 0 x)) Q (fun x => q (ix2 0 x)) d := by
  have key : ∀ y : Fin 64, A (ix2 (below 0 b) y) * FloatOps.sitofp (F := Ideal) .f32 (BitVec.setWidth 32 (heads (ix2 (below 0 b) y)))
      + A (ix2 (below 1 b) y) * FloatOps.sitofp (F := Ideal) .f32 (BitVec.setWidth 32 (heads (ix2 (below 1 b) y)))
      + A (ix2 (below 2 b) y) * FloatOps.sitofp (F := Ideal) .f32 (BitVec.setWidth 32 (heads (ix2 (below 2 b) y)))
      + A (ix2 (below 3 b) y) * FloatOps.sitofp (F := Ideal) .f32 (BitVec.setWidth 32 (heads (ix2 (below 3 b) y)))
      = A (ix2 (below ⟨y.val / 16, by omega⟩ b) y) := fun y => by
    rw [heads_word, heads_word, heads_word, heads_word]
    exact sum_shares (fun h => A (ix2 (below h b) y)) y
  unfold twice
  simp only [← key]
  have e0 : below 0 b = ⟨b.val, by omega⟩ := Fin.ext (by unfold below; show 0 * 128 + b.val = b.val; omega)
  have e1 : below 1 b = ⟨128 + b.val, by omega⟩ := Fin.ext (by unfold below; show 1 * 128 + b.val = 128 + b.val; omega)
  have e2 : below 2 b = ⟨256 + b.val, by omega⟩ := Fin.ext (by unfold below; show 2 * 128 + b.val = 256 + b.val; omega)
  have e3 : below 3 b = ⟨384 + b.val, by omega⟩ := Fin.ext (by unfold below; show 3 * 128 + b.val = 384 + b.val; omega)
  rw [e0, e1, e2, e3]
  generalize heads = hd
  pointwise [k0_pay4]

end Cert.Nearest

end
-- ==== Proof.Dist.lean ====
/-
  THE DISTANCES. The kernel expands the square, Σ x² − 2y·Σ x + 4096·y², its sums taken eight rows apart and over the two
  halves of the memories; for real entries that is the sum of the squared differences.
-/
module

public import proofs.«01_k».proof.Proof.KernelArray

@[expose] public section

set_option maxRecDepth 16384

noncomputable section

open Idealize.ShloMosaic Cert.KernelIdeal Cert.KernelIdeal.Gen

namespace Cert.Nearest

/-- A finite sum of reals is the sum of their values among the extended reals. -/
theorem coe_total {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over 2048 rows, taken eight apart. -/
theorem sum_eights (f : Fin 2048 → ℝ) :
    ∑ i, f i = ∑ r : Fin 8, ∑ g : Fin 256, f ⟨g.val * 8 + r.val, by omega⟩ := by
  rw [Finset.sum_comm, ← Fintype.sum_prod_type']
  refine (Fintype.sum_equiv (finProdFinEquiv (m := 256) (n := 8)) _ _ (fun p => congrArg f (Fin.ext ?_))).symm
  simp [finProdFinEquiv]; ring

/-- A sum over all 4096 rows, by halves and eight apart. -/
theorem sum_halves (f : Fin 4096 → ℝ) :
    ∑ i, f i = ∑ r : Fin 8, (∑ g : Fin 256, f ⟨g.val * 8 + r.val, by omega⟩ + ∑ g : Fin 256, f ⟨2048 + (g.val * 8 + r.val), by omega⟩) := by
  rw [Finset.sum_add_distrib, ← sum_eights (fun i => f ⟨i.val, by omega⟩), ← sum_eights (fun i => f ⟨2048 + i.val, by omega⟩)]
  exact Fin.sum_univ_add (a := 2048) (b := 2048) f

/-- The square expanded under the sum. -/
theorem expand_square (x : Fin 4096 → ℝ) (y : ℝ) :
    ∑ i, x i * x i - 2 * y * ∑ i, x i + 4096 * (y * y) = ∑ i, (x i - y) * (x i - y) := by
  have h : ∀ i, (x i - y) * (x i - y) = x i * x i - 2 * y * x i + y * y := fun i => by ring
  simp only [h, Finset.sum_add_distrib, Finset.sum_sub_distrib, ← Finset.mul_sum]
  simp
  ring

theorem word_2 : Ideal.ofBits .f32 0x40000000#32 = ((2 : ℝ) : EReal) := by
  simp [Ideal.ofBits, Ideal.ieee, -EReal.coe_mul]; norm_num

theorem word_4096 : Ideal.ofBits .f32 0x45800000#32 = ((4096 : ℝ) : EReal) := by
  simp [Ideal.ofBits, Ideal.ieee, -EReal.coe_mul]; norm_num

/-- The kernel's distance at a row and a column of real entries: the sum of the squared differences. -/
theorem distances_real (a b : FVec Ideal S2048x256 .f32) (o : FVec Ideal S128x256 .f32) (r : Fin 128) (c : Fin 256)
    (x : Fin 4096 → ℝ) (y : ℝ) (ha : ∀ i : Fin 2048, a (ix2 i c) = ((x ⟨i.val, by omega⟩ : ℝ) : EReal))
    (hb : ∀ i : Fin 2048, b (ix2 i c) = ((x ⟨2048 + i.val, by omega⟩ : ℝ) : EReal)) (ho : o (ix2 r c) = (y : EReal)) :
    distances a b o (ix2 r c) = ((∑ i, (x i - y) * (x i - y) : ℝ) : EReal) := by
  pointwise [distances, k0_pay15, k0_pay1, k0_pay2, k0_pay5, k0_pay6]
  simp only [ha, hb, ho, word_2, word_4096, ← EReal.coe_mul, ← coe_total, ← EReal.coe_add, ← EReal.coe_sub]
  rw [← expand_square, sum_halves x, sum_halves (fun i => x i * x i)]

end Cert.Nearest

end
-- ==== Proof.RefSelect.lean ====
/-
  THE REFERENCE'S SELECTION: the ten columns of least distance of each row, in order, by a stable sort; and the memories'
  rows read at them.
-/
module

public import proofs.«01_k».proof.Proof.Dist
public import proofs.«01_k».proof.Proof.Gen.ReferenceIdeal.Read
public import Idealize.ShloMosaic.Lib.SortFacts

@[expose] public section

set_option maxRecDepth 16384

noncomputable section

open Idealize.ShloMosaic Cert.ReferenceIdeal Cert.ReferenceIdeal.Gen Cert.ReferenceIdeal.Read

namespace Cert.Nearest

variable (x0 : FVec Ideal S128x256 .f32) (x1 : FVec Ideal S4096x512 .f32)

/-- The positions of a row of `x`, sorted by `gt`. -/
def ranked {α : Type} {a n : ℕ} (gt : α → α → BitVec 1) (x : (⟨2, ![a, n]⟩ : Shape).Idx → α) (r : Fin a) : Fin n → Fin n :=
  sortedFrom (fun c d : Fin n => gt (x (ix2 r c)) (x (ix2 r d)) == 1#1)

/-- The columns of a row in the reference's order: the greatest negated distance first. -/
def order (r : Fin 128) : Fin 256 → Fin 256 :=
  ranked (FloatOps.cmpfTotal (F := Ideal) (φ := .f32) .gt) (val_main_v9 (F := Ideal) x0 x1) r

/-- The `i`-th column the reference picks in a row. -/
def pick (r : Fin 128) (i : Fin 10) : Fin 256 := order x0 x1 r (i.castLE (by decide))

theorem ranked_surjective {α : Type} {a n : ℕ} (gt : α → α → BitVec 1) (x : (⟨2, ![a, n]⟩ : Shape).Idx → α) (r : Fin a) :
    Function.Surjective (ranked gt x r) := sortedFrom_surjective _

theorem ranked_injective {α : Type} {a n : ℕ} (gt : α → α → BitVec 1) (x : (⟨2, ![a, n]⟩ : Shape).Idx → α) (r : Fin a) :
    Function.Injective (ranked gt x r) := sortedFrom_injective _

theorem order_surjective (r : Fin 128) : Function.Surjective (order x0 x1 r) := by
  unfold order; exact ranked_surjective _ _ r

theorem order_injective (r : Fin 128) : Function.Injective (order x0 x1 r) := by
  unfold order; exact ranked_injective _ _ r

theorem pick_injective (r : Fin 128) : Function.Injective (pick x0 x1 r) := fun i j h =>
  Fin.castLE_injective _ (order_injective x0 x1 r (a₁ := i.castLE (by decide)) (a₂ := j.castLE (by decide)) h)

/-- The positions of the `k` greatest of a row, as words: the first `k` of the row's sorted positions. -/
theorem topK_index {α : Type} {a n k : ℕ} (gt : α → α → BitVec 1) (x : (⟨2, ![a, n]⟩ : Shape).Idx → α)
    (h : (⟨2, ![a, n]⟩ : Shape).Slices (fun _ => 0) ⟨2, ![a, k]⟩) (hk : k ≤ n) (r : Fin a) (i : Fin k) :
    (Host.topK ⟨2, ![a, k]⟩ 1 gt x h).2 (ix2 r i)
      = BitVec.ofNat 32 (ranked gt x r (i.castLE hk)).val := by
  have e : ∀ (c d : Fin n), Shape.Idx.along (s := ⟨2, ![a, n]⟩) (ix2 r c) (1 : Fin 2) d = ix2 r d := fun c d => by
    funext b
    unfold Shape.Idx.along
    match b with
    | ⟨0, _⟩ => exact Function.update_of_ne (Fin.ne_of_val_ne (show (0 : ℕ) ≠ 1 by decide)) _ _
    | ⟨1, _⟩ => exact Function.update_self _ _ _
  unfold Host.topK
  dsimp only
  rw [extractStridedSlice_apply _ _ _ _ (ix2 r (i.castLE hk)) (fun b => by
    match b with
    | ⟨0, _⟩ => exact (Nat.zero_add _).symm
    | ⟨1, _⟩ => exact (Nat.zero_add _).symm)]
  unfold Host.sort2
  rw [dif_pos (show 1 < 2 by decide)]
  dsimp only
  rw [dif_pos (show 1 < 2 by decide)]
  unfold iotaInDim
  have e' := fun d => e (i.castLE hk) d
  refine congrArg (BitVec.ofNat 32) ?_
  have key : ∀ R : Fin n → Fin n → Bool, ((ix2 r (i.castLE hk) : (⟨2, ![a, n]⟩ : Shape).Idx).along (1 : Fin 2)
      (sortedFrom R (i.castLE hk)) (1 : Fin 2)).val = (sortedFrom R (i.castLE hk)).val := fun R =>
    (congrArg (fun z : (⟨2, ![a, n]⟩ : Shape).Idx => (z (1 : Fin 2)).val) (e' (sortedFrom R (i.castLE hk)))).trans rfl
  refine (key _).trans ?_
  have e2 : (fun c d : Fin n => gt (x ((ix2 r (i.castLE hk) : (⟨2, ![a, n]⟩ : Shape).Idx).along (1 : Fin 2) c))
      (x ((ix2 r (i.castLE hk) : (⟨2, ![a, n]⟩ : Shape).Idx).along (1 : Fin 2) d)) == 1#1)
      = fun c d => gt (x (ix2 r c)) (x (ix2 r d)) == 1#1 := by
    funext c d; rw [e', e']
  exact congrArg (fun R => (sortedFrom R (i.castLE hk)).val) e2

/-- The index the reference writes down is the picked column's number. -/
theorem indices_apply (r : Fin 128) (i : Fin 10) :
    val_main_indices (F := Ideal) x0 x1 (ix2 r i) = BitVec.ofNat 32 (pick x0 x1 r i).val := by
  unfold val_main_indices pick order
  exact topK_index _ _ sliceFits_S128x256_S128x10 (by decide) r i

/-- A column's number, read as a signed word, is itself. -/
theorem column_word (c : Fin 256) : (BitVec.ofNat 32 c.val).toInt.toNat = c.val := by
  have h : (BitVec.ofNat 32 c.val).toNat = c.val := by
    rw [BitVec.toNat_ofNat]; exact Nat.mod_eq_of_lt (by omega)
  rw [BitVec.toInt_eq_toNat_of_lt (by omega), h]; rfl

/-- … and is not negative. -/
theorem column_word_nonneg (c : Fin 256) : IntOp.cmpi .slt (BitVec.ofNat 32 c.val) 0#32 = 0#1 := by
  have h : (BitVec.ofNat 32 c.val).toNat = c.val := by
    rw [BitVec.toNat_ofNat]; exact Nat.mod_eq_of_lt (by omega)
  have h2 : (BitVec.ofNat 32 c.val).toInt = c.val := by
    rw [BitVec.toInt_eq_toNat_of_lt (by omega), h]
  have h3 : ¬((c.val : ℤ) < 0) := by omega
  simp [IntOp.cmpi, BitVec.slt, h2, h3]

/-- The start of each gathered row: the picked column's number, then 256. -/
theorem starts_apply (r : Fin 128) (i : Fin 10) (k : Fin 2) :
    val_main_v17 (F := Ideal) x0 x1 (ix3 r i k) = if k.val < 1 then BitVec.ofNat 32 (pick x0 x1 r i).val else 256#32 := by
  pointwise [val_main_v17, val_main_v16, val_main_v15, val_main_v14, val_main_v11, val_main_v10, val_main_c, val_main_v13,
    val_main_v12, val_main_c_0, val_main_c_1]
  simp only [indices_apply, column_word_nonneg]
  rfl

theorem add_parts {s b o p q : ℕ} (hs : s = p) (hb : b = 0) (ho : o = q) : s + b + o = p + q := by rw [hs, hb, ho, Nat.add_zero]

theorem idx2_ext {a b : ℕ} (z : (⟨2, ![a, b]⟩ : Shape).Idx) (p : Fin a) (q : Fin b) (h0 : (z (0 : Fin 2)).val = p.val)
    (h1 : (z (1 : Fin 2)).val = q.val) : z = ix2 p q := by
  funext i
  match i with
  | ⟨0, _⟩ => exact Fin.ext h0
  | ⟨1, _⟩ => exact Fin.ext h1

/-- The gather's dimension numbers. -/
abbrev Rows := gather_S4096x512_S128x10x2_S128x10x256_2_0_n_n_01_2_1256

/-- Where the gather reads: the row the first word names, 256 columns further on. -/
theorem gather_at (y : IVec S128x10x2 32) (r : Fin 128) (i : Fin 10) (k : Fin 256) (p : Fin 4096)
    (h0 : (y (ix3 r i 0)).toInt.toNat = p.val) (h1 : (y (ix3 r i 1)).toInt.toNat = 256) :
    Host.gather Rows x1 y (ix3 r i k) = x1 (ix2 p ⟨256 + k.val, by omega⟩) := by
  have e : ∀ c : Fin 2, Rows.siIdx (ix3 r i k) c = ix3 r i c := fun c => by
    funext b
    match b with
    | ⟨0, _⟩ => rfl
    | ⟨1, _⟩ => rfl
    | ⟨2, _⟩ => rfl
  have hs0 : Rows.start (ix3 r i k) y (0 : Fin 2) = min (y (ix3 r i 0)).toInt.toNat 4095 := by
    unfold GatherDims.start
    rw [dif_pos (by decide)]
    exact congrArg (fun z => min (y z).toInt.toNat 4095) (e 0)
  have hs1 : Rows.start (ix3 r i k) y (1 : Fin 2) = min (y (ix3 r i 1)).toInt.toNat 256 := by
    unfold GatherDims.start
    rw [dif_pos (by decide)]
    exact congrArg (fun z => min (y z).toInt.toNat 256) (e 1)
  have ho1 : Rows.offCoord (ix3 r i k) (1 : Fin 2) = k.val := by
    unfold GatherDims.offCoord
    rw [dif_pos (by decide)]
    rfl
  have ho0 : Rows.offCoord (ix3 r i k) (0 : Fin 2) = 0 := GatherDims.offCoord_eq_zero _ _ _ (by decide)
  have hb0 : Rows.batchCoord (ix3 r i k) (0 : Fin 2) = 0 := GatherDims.batchCoord_eq_zero _ _ _ (by decide)
  have hb1 : Rows.batchCoord (ix3 r i k) (1 : Fin 2) = 0 := GatherDims.batchCoord_eq_zero _ _ _ (by decide)
  rw [h0, Nat.min_eq_left (by omega)] at hs0
  rw [h1, Nat.min_self] at hs1
  unfold Host.gather
  refine congrArg x1 (idx2_ext _ _ _ ?_ ?_)
  · exact (add_parts hs0 hb0 ho0).trans (Nat.add_zero _)
  · exact add_parts hs1 hb1 ho1

/-- A gathered entry: the row whose number is picked, 256 columns further on. -/
theorem rows_apply (r : Fin 128) (i : Fin 10) (k : Fin 256) :
    val_main_v18 (F := Ideal) x0 x1 (ix3 r i k)
      = x1 (ix2 ((pick x0 x1 r i).castLE (by decide)) ⟨256 + k.val, by omega⟩) := by
  have h0 := starts_apply x0 x1 r i 0
  have h1 := starts_apply x0 x1 r i 1
  rw [if_pos (by decide)] at h0
  rw [if_neg (by decide)] at h1
  have hp : ((pick x0 x1 r i).castLE (by decide) : Fin 4096).val = (pick x0 x1 r i).val := Fin.val_castLE _ _
  have hw : (256#32).toInt.toNat = 256 := by decide
  unfold val_main_v18
  refine gather_at x1 _ r i k _ ?_ ?_
  · rw [h0, column_word, hp]
  · rw [h1, hw]

end Cert.Nearest

end
-- ==== Proof.Chosen.lean ====
/-
  THE KERNEL MARKS THE COLUMNS THE REFERENCE PICKS. On finite observations and memories both order the columns by the same
  sums of squared differences, equal sums by the smaller column.
-/
module

public import proofs.«01_k».proof.Proof.RefSelect

@[expose] public section

set_option maxRecDepth 16384

noncomputable section

open Idealize.ShloMosaic Cert.ReferenceIdeal Cert.ReferenceIdeal.Gen Cert.ReferenceIdeal.Read

namespace Cert.Nearest

variable (x0 : FVec Ideal S128x256 .f32) (x1 : FVec Ideal S4096x512 .f32)

/-- The sum of the squared differences of one observation and one column of the memories. -/
def total (x : Fin 4096 → ℝ) (y : ℝ) : ℝ := ∑ i, (x i - y) * (x i - y)

theorem total_nonneg (x : Fin 4096 → ℝ) (y : ℝ) : 0 ≤ total x y := Finset.sum_nonneg fun _ _ => mul_self_nonneg _

theorem sqrt_real {d : ℝ} (hd : 0 ≤ d) : Ideal.sqrt (d : EReal) = ((Real.sqrt d : ℝ) : EReal) := by
  show (if d < 0 then (⊥ : EReal) else (Real.sqrt d : EReal)) = _
  rw [if_neg (not_lt.mpr hd)]

/-- The number the reference sorts by: the negated root of that sum. -/
theorem key_apply (r : Fin 128) (c : Fin 256) (x : Fin 4096 → ℝ) (y : ℝ)
    (hx : ∀ i, x1 (ix2 i ⟨c.val, by omega⟩) = ((x i : ℝ) : EReal)) (hy : x0 (ix2 r c) = (y : EReal)) :
    val_main_v9 (F := Ideal) x0 x1 (ix2 r c) = ((-Real.sqrt (total x y) : ℝ) : EReal) := by
  have h : val_main_v9 (F := Ideal) x0 x1 (ix2 r c) = -Ideal.sqrt (∑ i : Fin 4096,
      (x1 (ix2 i ⟨c.val, by omega⟩) - x0 (ix2 r c)) * (x1 (ix2 i ⟨c.val, by omega⟩) - x0 (ix2 r c))) := by
    pointwise [val_main_v9, val_main_v8, val_main_v7, val_main_v6, val_main_v5, val_main_v4, val_main_v3, val_main_v2,
      val_main_v1, val_main_v0, val_main_cst]
  rw [h]
  simp only [hx, hy, ← EReal.coe_sub, ← EReal.coe_mul, ← coe_total]
  show -Ideal.sqrt ((total x y : ℝ) : EReal) = _
  rw [sqrt_real (total_nonneg x y), EReal.coe_neg]

/-- The reference's order is by the sums, equal ones by the smaller column. -/
theorem order_before (r : Fin 128) (x : Fin 256 → Fin 4096 → ℝ) (y : Fin 256 → ℝ)
    (hx : ∀ i c, x1 (ix2 i ⟨c.val, by omega⟩) = ((x c i : ℝ) : EReal)) (hy : ∀ c, x0 (ix2 r c) = (y c : EReal))
    (i j : Fin 256) (hij : i < j) :
    Before (fun c => ((total (x c) (y c) : ℝ) : EReal)) (order x0 x1 r i) (order x0 x1 r j) := by
  have hk : ∀ c, val_main_v9 (F := Ideal) x0 x1 (ix2 r c) = ((-Real.sqrt (total (x c) (y c)) : ℝ) : EReal) :=
    fun c => key_apply x0 x1 r c (x c) (y c) (fun i => hx i c) (hy c)
  unfold order ranked
  refine sorted_before (g := fun c => val_main_v9 (F := Ideal) x0 x1 (ix2 r c)) (fun a b => ?_) _ (fun a b => ?_) i j hij
  · rw [hk, hk, EReal.coe_lt_coe_iff, EReal.coe_lt_coe_iff, neg_lt_neg_iff]
    exact Real.sqrt_lt_sqrt_iff (total_nonneg _ _)
  · generalize val_main_v9 (F := Ideal) x0 x1 (ix2 r a) = u
    generalize val_main_v9 (F := Ideal) x0 x1 (ix2 r b) = v
    show (BitVec.ofBool (decide (v < u)) == 1#1) = true ↔ v < u
    by_cases h : v < u <;> simp [h]

/-- The marked columns of a row are the picked ones. -/
theorem marks_picks (a b : FVec Ideal KernelIdeal.S2048x256 .f32) (r : Fin 128) (x : Fin 256 → Fin 4096 → ℝ) (y : Fin 256 → ℝ)
    (hx : ∀ i c, x1 (ix2 i ⟨c.val, by omega⟩) = ((x c i : ℝ) : EReal)) (hy : ∀ c, x0 (ix2 r c) = (y c : EReal))
    (ha : ∀ (i : Fin 2048) (c : Fin 256), a (ix2 i c) = x1 (ix2 ⟨i.val, by omega⟩ ⟨c.val, by omega⟩))
    (hb : ∀ (i : Fin 2048) (c : Fin 256), b (ix2 i c) = x1 (ix2 ⟨2048 + i.val, by omega⟩ ⟨c.val, by omega⟩)) (c : Fin 256) :
    marks (distances a b x0) (ix2 r c) = 1#1 ↔ ∃ i, pick x0 x1 r i = c :=
  marks_iff (f := fun c => ((total (x c) (y c) : ℝ) : EReal)) (σ := order x0 x1 r) (fun _ => EReal.coe_ne_top _)
    (order_surjective x0 x1 r) (order_before x0 x1 r x y hx hy) (distances a b x0)
    (fun c => distances_real a b x0 r c (x c) (y c) (fun i => (ha i c).trans (hx _ c)) (fun i => (hb i c).trans (hx _ c)) (hy c)) c

end Cert.Nearest

end
-- ==== Proof.RefValue.lean ====
/-
  THE REFERENCE'S RESULT AT A ROW AND A COLUMN, as sums over its arguments: the softmax of ten scores per head mixes the ten
  picked values, and two projections follow.
-/
module

public import proofs.«01_k».proof.Proof.KernelValue
public import proofs.«01_k».proof.Proof.Chosen

@[expose] public section

set_option maxRecDepth 16384

noncomputable section

open Idealize.ShloMosaic Cert.ReferenceIdeal Cert.ReferenceIdeal.Gen Cert.ReferenceIdeal.Read

namespace Cert.Nearest

variable (x0 : FVec Ideal S128x256 .f32) (x1 : FVec Ideal S4096x512 .f32) (x2 : FVec Ideal S64x256 .f32) (x3 : FVec Ideal S64 .f32)
  (x4 : FVec Ideal S64x64 .f32) (x5 : FVec Ideal S64 .f32) (x6 : FVec Ideal S64x256 .f32) (x7 : FVec Ideal S64 .f32)
  (x8 : FVec Ideal S64x256 .f32) (x9 : FVec Ideal S64 .f32) (x10 : FVec Ideal S64x64 .f32) (x11 : FVec Ideal S64 .f32)
  (x12 : FVec Ideal S64x64 .f32) (x13 : FVec Ideal S64 .f32)

/-- The query of a row. -/
def refQuery (b : Fin 128) (d : Fin 64) : EReal :=
  ∑ x, (∑ y, x0 (ix2 b y) * x2 (ix2 x y) + x3 (ix1 x)) * x4 (ix2 d x) + x5 (ix1 d)

/-- Row `c` of the memories' second half, projected. -/
def refProjected (W : FVec Ideal S64x256 .f32) (w : FVec Ideal S64 .f32) (c : Fin 256) (d : Fin 64) : EReal :=
  ∑ x : Fin 256, x1 (ix2 (c.castLE (by decide)) ⟨256 + x.val, by omega⟩) * W (ix2 d x) + w (ix1 d)

/-- The score of a column for a head of a row. -/
def refScore (b : Fin 128) (h : Fin 4) (c : Fin 256) : EReal :=
  Ideal.div (∑ e, refQuery x0 x2 x3 x4 x5 b (own h e) * refProjected x1 x6 x7 c (own h e)) (Ideal.ofBits .f32 0x40800000#32)

theorem query_stage (b : Fin 128) (d : Fin 64) :
    val_main_v28 (F := Ideal) x0 x2 x3 x4 x5 (ix3 b 0 d) = refQuery x0 x2 x3 x4 x5 b d := by
  pointwise [val_main_v28, val_main_v27, val_main_v26, val_main_v25, val_main_v24, val_main_v23, val_main_v22, val_main_v21,
    val_main_v20, val_main_v19, val_main_v1]
  rfl

theorem key_stage (b : Fin 128) (i : Fin 10) (d : Fin 64) :
    val_main_v33 (F := Ideal) x0 x1 x6 x7 (ix3 b i d) = refProjected x1 x6 x7 (pick x0 x1 b i) d := by
  unfold refProjected
  simp only [← rows_apply x0 x1 b i]
  pointwise [val_main_v33, val_main_v32, val_main_v31, val_main_v30, val_main_v29]

theorem value_stage (b : Fin 128) (i : Fin 10) (d : Fin 64) :
    val_main_v38 (F := Ideal) x0 x1 x8 x9 (ix3 b i d) = refProjected x1 x8 x9 (pick x0 x1 b i) d := by
  unfold refProjected
  simp only [← rows_apply x0 x1 b i]
  pointwise [val_main_v38, val_main_v37, val_main_v36, val_main_v35, val_main_v34]

theorem score_stage (b : Fin 128) (h : Fin 4) (i : Fin 10) :
    val_main_v48 (F := Ideal) x0 x1 x2 x3 x4 x5 x6 x7 (ix4 b h 0 i) = refScore x0 x1 x2 x3 x4 x5 x6 x7 b h (pick x0 x1 b i) := by
  unfold refScore
  simp only [← query_stage, ← key_stage]
  pointwise [val_main_v48, val_main_v47, val_main_cst_2, val_main_v46, val_main_v45, val_main_v42, val_main_v41, val_main_v40, val_main_v39]
  rfl

theorem mix_stage (b : Fin 128) (h : Fin 4) (e : Fin 16) :
    val_main_v60 (F := Ideal) x0 x1 x2 x3 x4 x5 x6 x7 x8 x9 (ix4 b h 0 e)
      = soft (fun i => refScore x0 x1 x2 x3 x4 x5 x6 x7 b h (pick x0 x1 b i)) (fun i => refProjected x1 x8 x9 (pick x0 x1 b i) (own h e)) := by
  simp only [← score_stage, ← value_stage]
  pointwise [val_main_v60, val_main_v59, val_main_v58, val_main_v57, val_main_v56, val_main_v55, val_main_v54, val_main_v53,
    val_main_v52, val_main_v51, val_main_v50, val_main_v49, val_main_v44, val_main_v43, val_main_cst_3, val_main_cst_4, val_main_cst_5]
  unfold soft
  simp only [word_bottom, max_bot_left]
  rfl

/-- The result: the heads side by side, projected twice. -/
theorem result_stage (b : Fin 128) (d : Fin 64) :
    val_main_v73 (F := Ideal) x0 x1 x2 x3 x4 x5 x6 x7 x8 x9 x10 x11 x12 x13 (ix2 b d)
      = twice (fun y => soft (fun i => refScore x0 x1 x2 x3 x4 x5 x6 x7 b ⟨y.val / 16, by omega⟩ (pick x0 x1 b i))
          (fun i => refProjected x1 x8 x9 (pick x0 x1 b i) y)) x10 (fun x => x11 (ix1 x)) x12 (fun x => x13 (ix1 x)) d := by
  have key : ∀ y : Fin 64, soft (fun i => refScore x0 x1 x2 x3 x4 x5 x6 x7 b ⟨y.val / 16, by omega⟩ (pick x0 x1 b i))
      (fun i => refProjected x1 x8 x9 (pick x0 x1 b i) y)
      = val_main_v60 (F := Ideal) x0 x1 x2 x3 x4 x5 x6 x7 x8 x9 (ix4 b ⟨y.val / 16, by omega⟩ 0 ⟨y.val % 16, by omega⟩) := fun y => by
    rw [mix_stage]
    have e : own ⟨y.val / 16, by omega⟩ ⟨y.val % 16, by omega⟩ = y :=
      Fin.ext (show y.val / 16 * 16 + y.val % 16 = y.val by omega)
    rw [e]
  unfold twice
  simp only [key]
  pointwise [val_main_v73, val_main_v72, val_main_v71, val_main_v70, val_main_v69, val_main_v68, val_main_v67, val_main_v66,
    val_main_v65, val_main_v64, val_main_v63, val_main_v62, val_main_v61]

end Cert.Nearest

end
-- ==== Proof.Finite.lean ====
/-
  THE PRECONDITION READ OUT: every entry of the eight arrays it names is a real number.
-/
module

public import proofs.«01_k».proof.Pre_finite
public import proofs.«01_k».proof.Proof.Rounds
import Idealize.ShloMosaic.Lib.ReduceAll
import Idealize.ShloMosaic.Lib.Pointwise

@[expose] public section

set_option maxRecDepth 16384

noncomputable section

open Idealize.ShloMosaic Cert.Pre_finite

namespace Cert.Nearest

/-- The side conditions of the precondition's operations. -/
theorem finite_facts : Cert.Pre_finite.Facts where
  bcast_S_S128x256 := by decide
  reducesTo_S128x256_S_d0_1 := by decide
  h_S_ := by decide
  bcast_S_S4096x512 := by decide
  reducesTo_S4096x512_S_d0_1 := by decide
  bcast_S_S64x256 := by decide
  reducesTo_S64x256_S_d0_1 := by decide
  bcast_S_S64 := by decide
  reducesTo_S64_S_d0 := by decide
  bcast_S_S64x64 := by decide
  reducesTo_S64x64_S_d0_1 := by decide

/-- An ideal value of finite magnitude is a real number. -/
theorem real_of_abs (x : Ideal .f32) (h : FloatOps.cmpf .olt (FloatOps.hostAbsf x) (FloatOps.ofBits (F := Ideal) .f32 0x7F800000#32) = 1#1) :
    ∃ r : ℝ, x = (r : EReal) := by
  have hlt : max (x : EReal) (-(x : EReal)) < ⊤ := by
    have h' : Ideal.cmp .olt (max (x : EReal) (-(x : EReal))) (Ideal.ofBits .f32 0x7F800000#32) = 1#1 := h
    rw [infinity_word] at h'
    by_contra hn
    simp [Ideal.cmp, hn] at h'
  rw [max_lt_iff] at hlt
  refine ⟨(x : EReal).toReal, (EReal.coe_toReal hlt.1.ne ?_).symm⟩
  rintro rfl
  exact absurd hlt.2 (by simp)

/-- Every entry of an array is a real number. -/
abbrev Real' {s : Shape} (x : FVec Ideal s .f32) : Prop := ∀ i, ∃ r : ℝ, x i = (r : EReal)

/-- An array whose conjunction of finiteness bits is 1 holds real numbers only. -/
theorem all_real {s : Shape} {d : List (Fin s.rank)} (x : FVec Ideal s .f32) (hb : S_.BroadcastsInDim s (![] : Fin 0 → Fin s.rank)) (hr : s.ReducesTo d S_) (hu : 0 < S_.numel)
    (j : S_.Idx) (h : Host.reduce IntOp.andi (cmpf .olt (Host.absf x) (broadcastInDim s ![] hb (constant S_ .f32 0x7F800000#32))) (constantI S_ 1 1#1) hr hu j = 1#1) :
    Real' x := fun i => real_of_abs _ (Host.reduce_andi_all _ _ _ _ j h i)

theorem andi_one {a b : IVec S_ 1} {j : S_.Idx} (h : andi a b j = 1#1) : a j = 1#1 ∧ b j = 1#1 := by
  have h' : IntOp.andi (a j) (b j) = 1#1 := h
  revert h'
  generalize a j = p
  generalize b j = q
  revert p q
  decide

/-- What the precondition says. -/
theorem finite_args [Cert.Pre_finite.Facts] {x0 : FVec Ideal S128x256 .f32} {x1 : FVec Ideal S4096x512 .f32} {x2 : FVec Ideal S64x256 .f32} {x3 : FVec Ideal S64 .f32}
    {x4 : FVec Ideal S64x64 .f32} {x5 : FVec Ideal S64 .f32} {x6 : FVec Ideal S64x256 .f32} {x7 : FVec Ideal S64 .f32}
    {x8 : FVec Ideal S64x256 .f32} {x9 : FVec Ideal S64 .f32} {x10 : FVec Ideal S64x64 .f32} {x11 : FVec Ideal S64 .f32}
    {x12 : FVec Ideal S64x64 .f32} {x13 : FVec Ideal S64 .f32}
    (h : Cert.Pre_finite.fn (F := Ideal) x0 x1 x2 x3 x4 x5 x6 x7 x8 x9 x10 x11 x12 x13 = fun _ => 1#1) :
    Real' x0 ∧ Real' x1 ∧ Real' x2 ∧ Real' x3 ∧ Real' x4 ∧ Real' x5 ∧ Real' x6 ∧ Real' x7 := by
  have h0 := congrFun h ix0
  obtain ⟨h0, h7⟩ := andi_one h0
  obtain ⟨h0, h6⟩ := andi_one h0
  obtain ⟨h0, h5⟩ := andi_one h0
  obtain ⟨h0, h4⟩ := andi_one h0
  obtain ⟨h0, h3⟩ := andi_one h0
  obtain ⟨h0, h2⟩ := andi_one h0
  obtain ⟨h0, h1⟩ := andi_one h0
  exact ⟨all_real x0 _ _ _ _ h0, all_real x1 _ _ _ _ h1, all_real x2 _ _ _ _ h2, all_real x3 _ _ _ _ h3, all_real x4 _ _ _ _ h4,
    all_real x5 _ _ _ _ h5, all_real x6 _ _ _ _ h6, all_real x7 _ _ _ _ h7⟩

end Cert.Nearest

end
-- ==== Proof.Equation.lean ====
/-
  THE KERNEL'S RESULT IS THE REFERENCE'S: the same ten columns are picked, the same scores weigh the same values.
-/
module

public import proofs.«01_k».proof.Proof.RefValue
public import proofs.«01_k».proof.Proof.Finite

@[expose] public section

set_option maxRecDepth 16384

noncomputable section

open Idealize.ShloMosaic Cert.KernelIdeal Cert.KernelIdeal.Gen Cert.ReferenceIdeal.Read

namespace Cert.Nearest

/-- A value that is a real number. -/
abbrev IsReal (x : EReal) : Prop := ∃ r : ℝ, x = (r : EReal)

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem IsReal.sum {n : ℕ} {f : Fin n → EReal} (hf : ∀ i, IsReal (f i)) : IsReal (∑ i, f i) := by
  choose r hr using hf
  exact ⟨∑ i, r i, by rw [coe_total]; exact Finset.sum_congr rfl fun i _ => hr i⟩

variable (x0 : FVec Ideal S128x256 .f32) (x1 : FVec Ideal S4096x512 .f32) (x2 : FVec Ideal S64x256 .f32) (x3 : FVec Ideal S64 .f32)
  (x4 : FVec Ideal S64x64 .f32) (x5 : FVec Ideal S64 .f32) (x6 : FVec Ideal S64x256 .f32) (x7 : FVec Ideal S64 .f32)
  (x8 : FVec Ideal S64x256 .f32) (x9 : FVec Ideal S64 .f32) (x10 : FVec Ideal S64x64 .f32) (x11 : FVec Ideal S64 .f32)
  (x12 : FVec Ideal S64x64 .f32) (x13 : FVec Ideal S64 .f32)

/-- Every score of a row is a real number. -/
theorem score_real (h0 : Real' x0) (h1 : Real' x1) (h2 : Real' x2) (h3 : Real' x3) (h4 : Real' x4) (h5 : Real' x5) (h6 : Real' x6)
    (h7 : Real' x7) (b : Fin 128) (h : Fin 4) (c : Fin 256) : IsReal (refScore x0 x1 x2 x3 x4 x5 x6 x7 b h c) := by
  unfold refScore
  rw [← quarter, word_quarter]
  refine IsReal.mul (IsReal.sum fun e => IsReal.mul ?_ ?_) ⟨_, rfl⟩
  · exact (IsReal.sum fun x => ((IsReal.sum fun y => IsReal.mul (h0 _) (h2 _)).add (h3 _)).mul (h4 _)).add (h5 _)
  · exact (IsReal.sum fun x => IsReal.mul (h1 _) (h6 _)).add (h7 _)

/-- From blocks that hold the arguments' entries, the kernel's result at a row and a column is the reference's. -/
theorem result_eq (h0 : Real' x0) (h1 : Real' x1) (h2 : Real' x2) (h3 : Real' x3) (h4 : Real' x4) (h5 : Real' x5) (h6 : Real' x6)
    (h7 : Real' x7) (a b : FVec Ideal S2048x256 .f32) (A : FVec Ideal S256x256 .f32) (w3 w5 w7 w9 w11 w13 : FVec Ideal S1x64 .f32)
    (ha : ∀ (i : Fin 2048) (k : Fin 256), a (ix2 i k) = x1 (ix2 ⟨i.val, by omega⟩ ⟨k.val, by omega⟩))
    (hb : ∀ (i : Fin 2048) (k : Fin 256), b (ix2 i k) = x1 (ix2 ⟨2048 + i.val, by omega⟩ ⟨k.val, by omega⟩))
    (hA : ∀ (i : Fin 256) (k : Fin 256), A (ix2 i k) = x1 (ix2 ⟨i.val, by omega⟩ ⟨256 + k.val, by omega⟩))
    (hw3 : ∀ k, w3 (ix2 0 k) = x3 (ix1 k)) (hw5 : ∀ k, w5 (ix2 0 k) = x5 (ix1 k)) (hw7 : ∀ k, w7 (ix2 0 k) = x7 (ix1 k))
    (hw9 : ∀ k, w9 (ix2 0 k) = x9 (ix1 k)) (hw11 : ∀ k, w11 (ix2 0 k) = x11 (ix1 k)) (hw13 : ∀ k, w13 (ix2 0 k) = x13 (ix1 k))
    (r : Fin 128) (d : Fin 64) :
    k0_pay4 (F := Ideal) (attention (marks (distances a b x0)) (k0_pay7 A x6 w7) (k0_pay8 A x8 w9) (queries x0 x2 w3 x4 w5))
      heads x10 w11 x12 w13 (ix2 r d)
      = val_main_v73 (F := Ideal) x0 x1 x2 x3 x4 x5 x6 x7 x8 x9 x10 x11 x12 x13 (ix2 r d) := by
  rw [output_apply, result_stage]
  have e11 : (fun x => w11 (ix2 0 x)) = fun x => x11 (ix1 x) := funext hw11
  have e13 : (fun x => w13 (ix2 0 x)) = fun x => x13 (ix1 x) := funext hw13
  rw [e11, e13]
  refine congrArg (fun z => twice z x10 (fun x => x11 (ix1 x)) x12 (fun x => x13 (ix1 x)) d) (funext fun y => ?_)
  have hq : ∀ d', query x0 x2 w3 x4 w5 r d' = refQuery x0 x2 x3 x4 x5 r d' := fun d' => by
    unfold query refQuery
    simp only [hw3, hw5]
  have hK : ∀ c d', projected A x6 w7 c d' = refProjected x1 x6 x7 c d' := fun c d' => by
    unfold projected refProjected
    simp only [hA, hw7]
    rfl
  have hV : ∀ c d', projected A x8 w9 c d' = refProjected x1 x8 x9 c d' := fun c d' => by
    unfold projected refProjected
    simp only [hA, hw9]
    rfl
  generalize (⟨y.val / 16, by omega⟩ : Fin 4) = h
  rw [attention_apply]
  have hs : ∀ c, (∑ x, queries x0 x2 w3 x4 w5 (ix2 (below h r) x) * k0_pay7 (F := Ideal) A x6 w7 (ix2 c x)) * Ideal.ofBits .f32 0x3E800000#32
      = refScore x0 x1 x2 x3 x4 x5 x6 x7 r h c := fun c => by
    simp only [queries_apply, keys_apply, hq, hK]
    rw [score_own, quarter]
    rfl
  simp only [hs, values_apply, hV]
  choose s hs' using score_real x0 x1 x2 x3 x4 x5 x6 x7 h0 h1 h2 h3 h4 h5 h6 h7 r h
  simp only [hs']
  choose f hf using h1
  choose g hg using h0
  exact masked_eq_soft (by decide) _ (pick x0 x1 r) (pick_injective x0 x1 r)
    (marks_picks x0 x1 a b r (fun c i => f (ix2 i ⟨c.val, by omega⟩)) (fun c => g (ix2 r c)) (fun i c => hf _) (fun c => hg _) ha hb)
    s (fun c => refProjected x1 x8 x9 c y)

end Cert.Nearest

end
-- ==== Proof.Result.lean ====
/-
  THE KERNEL'S RESULT ARRAY, as the reference's result over the same arguments.
-/
module

public import proofs.«01_k».proof.Proof.Blocks
public import proofs.«01_k».proof.Proof.Equation

@[expose] public section

set_option maxRecDepth 16384

noncomputable section

open Idealize.ShloMosaic Idealize.SL.Sem Cert.KernelIdeal Cert.KernelIdeal.Gen Cert.KernelIdeal.Value

namespace Cert.Nearest

variable (m : (ℓ : Loc nD τ sig) → Buf (Elt Ideal) ℓ) (c : Dev nD)

/-- The reference's result over the kernel's argument arrays. -/
abbrev reference : FVec Ideal S128x64 .f32 :=
  Cert.ReferenceIdeal.Read.val_main_v73 (F := Ideal)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13))

/-- Where the precondition holds, the array the kernel leaves is the reference's result. -/
theorem array_eq [Cert.Pre_finite.Facts]
    (h : Cert.Pre_finite.fn (F := Ideal)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) = fun _ => 1#1) : G15 m c = reference m c := by
  obtain ⟨h0, h1, h2, h3, h4, h5, h6, h7⟩ := finite_args h
  rw [array_blocks, block0 m c first, block0 m c second, block3 m c first, block5 m c first, block7 m c first, block9 m c first,
    block11 m c second, block13 m c second]
  refine funext2 fun r d => ?_
  exact result_eq _ _ _ _ _ _ _ _ _ _ _ _ _ _ h0 h1 h2 h3 h4 h5 h6 h7 _ _ _ _ _ _ _ _ _ (block1_first m c) (block1_second m c)
    (block2 m c first) (block4 m c first) (block6 m c first) (block8 m c first) (block10 m c first) (block12 m c second)
    (block14 m c second) r d

end Cert.Nearest

end
-- ==== Proof.lean ====
/- The claim, assembled: the frames of the three programs, the two named constants and the equality of the results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Result
public import Idealize.ShloMosaic.Adequacy
public import Idealize.ShloMosaic.Init

@[expose] public section

noncomputable section

namespace Cert.Proof

open Idealize.ShloMosaic Idealize.SL.Sem Cert.Kernel

/-- From equal arguments that meet the precondition, the kernel and the reference leave equal results. -/
theorem algebraic [Cert.Pre_finite.Facts] : Cert.algebraic_KernelIdeal_ReferenceIdeal_pre_finite := by
  intro m g m' g' hpre hargs
  refine ⟨fun c => Cert.KernelIdeal.Value.G15 m c, Cert.KernelIdeal.Value.run m g, ?_⟩
  refine (θ_run Cert.ReferenceIdeal.defs _ _).mono (fun r h c => ⟨(h c).1.trans ?_, (h c).2⟩) (Cert.ReferenceIdeal.Value.run m' g')
  obtain ⟨e0, e1, e2, e3, e4, e5, e6, e7, e8, e9, e10, e11, e12, e13⟩ := hargs c
  rw [Cert.ReferenceIdeal.Read.val_main_v73_eq, e0, e1, e2, e3, e4, e5, e6, e7, e8, e9, e10, e11, e12, e13]
  exact (Cert.Nearest.array_eq m c (hpre c)).symm

theorem claim : Cert.Claim :=
  haveI := Cert.Nearest.finite_facts
  ⟨Cert.Kernel.Gen.facts, Cert.KernelIdeal.Gen.facts, Cert.ReferenceIdeal.Gen.facts, Cert.Nearest.finite_facts,
    fun m ρ _ => Cert.Kernel.Gen.frame m ρ,
    fun m ρ _ => Cert.KernelIdeal.Gen.frame m ρ,
    fun m ρ _ => Cert.KernelIdeal.Gen.frame m ρ,
    fun m ρ _ => (θ_run Cert.ReferenceIdeal.defs _ _).mono
      (fun r h => ⟨fun c => (h c).2, sem_eq_zero_of_no_sems (by decide) r.2⟩) (Cert.ReferenceIdeal.Value.run m ρ),
    fun m ρ _ => (θ_run Cert.ReferenceIdeal.defs _ _).mono
      (fun r h => ⟨fun c => (h c).2, sem_eq_zero_of_no_sems (by decide) r.2⟩) (Cert.ReferenceIdeal.Value.run m ρ),
    ⟨IdealRules.named_const.statement Cert.KernelIdeal.κ "pos" .f32 0x7F61B1E6#32 ⊤ rfl,
      IdealRules.named_const.statement Cert.KernelIdeal.κ "neg" .f32 0xFF61B1E6#32 ⊥ rfl⟩,
    algebraic⟩

end Cert.Proof

end
